-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S8x128x1024 : Shape := ⟨3, ![8, 128, 1024]⟩
abbrev S8 : Shape := ⟨1, ![8]⟩
abbrev S_ : Shape := ⟨0, ![]⟩
abbrev S128x128 : Shape := ⟨2, ![128, 128]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S128x1024, .f32⟩
  | .local _ .vmem, ⟨0, _⟩ => ⟨S1024x128, .bf16⟩
  | .local _ .vmem, ⟨1, _⟩ => ⟨S128x1024, .bf16⟩
  | .local _ .vmem, ⟨2, _⟩ => ⟨S128x1024, .f32⟩
  | .local _ .vmem, ⟨3, _⟩ => ⟨S8x128x1024, .bf16⟩
  | .local _ .vmem, ⟨4, _⟩ => ⟨S8x128x1024, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_28
  let c8_i32_29 : BitVec 32 := 8#32
  let v33 : BitVec 32 := Scalar.remsi v32 c8_i32_29
  let c128_i32 : BitVec 32 := 128#32
  let v34 : BitVec 32 := Scalar.muli v33 c128_i32
  let v35 : Index := Scalar.indexCast v34
  let c0 : Index := 0#32
  ![v35.toNat, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v32 : BitVec 32 := Scalar.addi v2 c1_i32_28
  let c8_i32_29 : BitVec 32 := 8#32
  let v33 : BitVec 32 := Scalar.remsi v32 c8_i32_29
  let c1_i32_39 : BitVec 32 := 1#32
  let v45 : BitVec 32 := Scalar.muli v33 c1_i32_39
  let v46 : BitVec 32 := Scalar.addi c0_i32_40 v45
  v46.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v55 : BitVec 32 := Scalar.addi v2 c2_i32_45
  let c8_i32_46 : BitVec 32 := 8#32
  let v56 : BitVec 32 := Scalar.remsi v55 c8_i32_46
  let c1_i32_58 : BitVec 32 := 1#32
  let v68 : BitVec 32 := Scalar.muli v56 c1_i32_58
  let v69 : BitVec 32 := Scalar.addi c0_i32_59 v68
  v69.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v78 : BitVec 32 := Scalar.addi v2 c3_i32_64
  let c8_i32_65 : BitVec 32 := 8#32
  let v79 : BitVec 32 := Scalar.remsi v78 c8_i32_65
  let c1_i32_77 : BitVec 32 := 1#32
  let v91 : BitVec 32 := Scalar.muli v79 c1_i32_77
  let v92 : BitVec 32 := Scalar.addi c0_i32_78 v91
  v92.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v101 : BitVec 32 := Scalar.addi v2 c4_i32_83
  let c8_i32_84 : BitVec 32 := 8#32
  let v102 : BitVec 32 := Scalar.remsi v101 c8_i32_84
  let c1_i32_96 : BitVec 32 := 1#32
  let v114 : BitVec 32 := Scalar.muli v102 c1_i32_96
  let v115 : BitVec 32 := Scalar.addi c0_i32_97 v114
  v115.toNat
def k0_dev12 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_102 : BitVec 32 := 5#32
  let v124 : BitVec 32 := Scalar.addi v2 c5_i32_102
  let c8_i32_103 : BitVec 32 := 8#32
  let v125 : BitVec 32 := Scalar.remsi v124 c8_i32_103
  let c1_i32_115 : BitVec 32 := 1#32
  let v137 : BitVec 32 := Scalar.muli v125 c1_i32_115
  let v138 : BitVec 32 := Scalar.addi c0_i32_116 v137
  v138.toNat
def k0_dev13 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_121 : BitVec 32 := 6#32
  let v147 : BitVec 32 := Scalar.addi v2 c6_i32_121
  let c8_i32_122 : BitVec 32 := 8#32
  let v148 : BitVec 32 := Scalar.remsi v147 c8_i32_122
  let c1_i32_134 : BitVec 32 := 1#32
  let v160 : BitVec 32 := Scalar.muli v148 c1_i32_134
  let v161 : BitVec 32 := Scalar.addi c0_i32_135 v160
  v161.toNat
def k0_dev14 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_140 : BitVec 32 := 7#32
  let v170 : BitVec 32 := Scalar.addi v2 c7_i32_140
  let c8_i32_141 : BitVec 32 := 8#32
  let v171 : BitVec 32 := Scalar.remsi v170 c8_i32_141
  let c1_i32_153 : BitVec 32 := 1#32
  let v183 : BitVec 32 := Scalar.muli v171 c1_i32_153
  let v184 : BitVec 32 := Scalar.addi c0_i32_154 v183
  v184.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_159 : BitVec 32 := 128#32
  let v193 : BitVec 32 := Scalar.muli v2 c128_i32_159
  let v194 : Index := Scalar.indexCast v193
  let c0_160 : Index := 0#32
  ![v194.toNat, 0]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Plan.lean ====
/-
# The protocol of the kernel, written down once

Eight devices. Device `s` multiplies the eight row blocks of its own `x` by its own `w`; the product for row block
`d` goes to device `d`, which adds the eight products it ends up with and clips them at zero. The product a device
keeps never leaves it; the one for the device `k` places further round travels through slot `k` of two scratch
buffers, out of slot `k` of the sender's and into slot `k` of the receiver's.

Here are the names for all of that (slots, semaphores, contents), what each semaphore's round hands over (`plan`), and
what a device owes the others at the start (`debt`). Everything is indexed by an offset `k : Fin 8` around the
ring of devices, devices and offsets adding as elements of `Fin 8`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline's own, and one copy of the rounds state whose duties are named by offsets. -/
abbrev RingU : Type := URounds (GSem nD τ sig) (Fin 8)
abbrev AllU : Type := UR sig nD τ × RingU

local notation "𝕄" => MT nD τ sig Unit (Elt F) ℕ AllU ℕ

abbrev pipeE : Emb (UR sig nD τ) (MT nD τ sig Unit (Elt F) ℕ AllU ℕ) := embL
abbrev ringE : Emb RingU (MT nD τ sig Unit (Elt F) ℕ AllU ℕ) := embR

variable (m : (ℓ : Loc nD τ sig) → Buf (Elt F) ℓ) (ρ : Dev nD → PrngReg)

/-- The memory before the run: any contents, all semaphores at zero. -/
def before₀ : MemSt nD τ sig (Elt F) := ⟨m, fun _ => 0, ρ⟩

/-! ## Going round -/

theorem there_back (c k : Fin 8) : c + k + -k = c := by decide +revert
theorem there_less (c k : Fin 8) : c + k - k = c := by decide +revert
theorem back_ne {k : Fin 8} (hk : k ≠ 0) : -k ≠ 0 := by decide +revert

/-! ## Buffers and slots -/

abbrev xM : Memref sig .tc .vmem S1024x128 .bf16 := Memref.whole cc0_stg0_0
abbrev wM : Memref sig .tc .vmem S128x1024 .bf16 := Memref.whole cc0_stg1_0
abbrev oM : Memref sig .tc .vmem S128x1024 .f32 := Memref.whole cc0_stg2_0
abbrev outM : Memref sig .tc .vmem S8x128x1024 .bf16 := Memref.whole cc0_scratch0
abbrev inM : Memref sig .tc .vmem S8x128x1024 .bf16 := Memref.whole cc0_scratch1

theorem slot_fits (k : Fin 8) : ∀ a, (![k.val, 0, 0] : Fin 3 → ℕ) a + S1x128x1024.size a ≤ S8x128x1024.size a := by
  revert k; decide
/-- Slot `k` of a scratch buffer. -/
abbrev slotR (k : Fin 8) : Rect S8x128x1024 := Rect.unit (s := S8x128x1024) ![k.val, 0, 0] S1x128x1024.size (slot_fits k)
/-- Slot `k` of the buffer of outgoing products. -/
abbrev outS (k : Fin 8) : Memref sig .tc .vmem S1x128x1024 .bf16 := outM.slice (slotR k) (fun _ => rfl)
/-- Slot `k` of the buffer of incoming products. -/
abbrev inS (k : Fin 8) : Memref sig .tc .vmem S1x128x1024 .bf16 := inM.slice (slotR k) (fun _ => rfl)
/-- The same two slots with the leading axis of length one dropped, as a transfer names them. -/
abbrev outQ (k : Fin 8) : Memref sig .tc .vmem S128x1024 .bf16 := (outS k).squeeze S128x1024 squeezes_S1x128x1024_S128x1024
abbrev inQ (k : Fin 8) : Memref sig .tc .vmem S128x1024 .bf16 := (inS k).squeeze S128x1024 squeezes_S1x128x1024_S128x1024

theorem rows_fit (d : Dev nD) : ∀ a, (![128 * d.val, 0] : Fin 2 → ℕ) a + S128x128.size a ≤ S1024x128.size a := by
  revert d; decide
/-- Row block `d` of `x`. -/
abbrev rowR (d : Dev nD) : Rect S1024x128 := Rect.unit (s := S1024x128) ![128 * d.val, 0] S128x128.size (rows_fit d)
abbrev allR : Rect S128x1024 := Rect.unit (s := S128x1024) ![0, 0] S128x1024.size inb_S128x1024_S128x1024_0_0

/-! ## Semaphores -/

/-- The semaphore of the entry handshake. -/
abbrev doorS : Sem sig := (SemArray.scalar (sig.barrier 0 rfl) : Sems sig S_).sem

theorem lane_lt (b : Bool) (k : Fin 8) : cond b 11 3 + k.val < 19 := by revert b k; decide
/-- The transfer semaphores: slot `k`'s departure (`false`) and arrival (`true`). -/
abbrev moveS (b : Bool) (k : Fin 8) : DmaSem sig := ⟨cond b 11 3 + k.val, lane_lt b k⟩

/-- All the semaphores the protocol runs on. -/
abbrev Spot : Type := Option (Bool × Fin 8)
abbrev spotSem : Spot → SemLoc sig
  | none => .reg doorS
  | some bk => .dma (moveS bk.1 bk.2)
abbrev cell (p : Dev nD × Spot) : GSem nD τ sig := ((p.1 : Thread nD τ), spotSem p.2)
abbrev door (c : Dev nD) : GSem nD τ sig := cell (c, none)
abbrev leave (c : Dev nD) (k : Fin 8) : GSem nD τ sig := cell (c, some (false, k))
abbrev land (c : Dev nD) (k : Fin 8) : GSem nD τ sig := cell (c, some (true, k))

/-- The credit of one slot's transfer. -/
abbrev N : ℕ := (inQ 0).view.dmaCredit
theorem credit_in (k : Fin 8) : (inQ k).view.dmaCredit = N := rfl
theorem credit_out (k : Fin 8) : (outQ k).view.dmaCredit = N := rfl
theorem N_pos : 0 < N := View.dmaCredit_pos _ (by decide)

/-! ## Contents -/

/-- Device `c`'s columns of `x` and rows of `w`, as its body finds them. -/
def xAt (c : Dev nD) : Vec F S1024x128 .bf16 := (win0_0.blk (0 : Fin 1)).view.read (Elt F) ((before₀ m ρ).mem ((c : Thread nD τ).loc main_arg0))
def wAt (c : Dev nD) : Vec F S128x1024 .bf16 := (win0_1.blk (0 : Fin 1)).view.read (Elt F) ((before₀ m ρ).mem ((c : Thread nD τ).loc main_arg1))
/-- Row block `d` of them. -/
def xRows (s d : Dev nD) : Vec F S128x128 .bf16 := xM.view.readAt (Elt F) (rowR d).toLoadRect (xAt m ρ s)
/-- The product device `s` makes for device `d`, as it is sent. -/
def part (s d : Dev nD) : Vec F S1x128x1024 .bf16 := k0_pay1 (xRows m ρ s d) (wAt m ρ s)
/-- Device `c`'s result: its own product and the seven it receives, added in the order of their offsets, clipped. -/
def outAt (c : Dev nD) : Vec F S128x1024 .f32 :=
  k0_pay13 (k0_pay12 (k0_pay11 (k0_pay10 (xRows m ρ c c) (wAt m ρ c)) (part m ρ (c - 1) c) (part m ρ (c - 2) c))
    (part m ρ (c - 3) c) (part m ρ (c - 4) c) (part m ρ (c - 5) c)) (part m ρ (c - 6) c) (part m ρ (c - 7) c)

/-! ## The rounds -/

/-- A slot somebody may write to: owned, whatever is in it. -/
def outFree (c : Dev nD) (k : Fin 8) : sProp 𝕄 := iprop(∃ X, owns (c : Thread nD τ) (outS k) fullShare X)
def inFree (c : Dev nD) (k : Fin 8) : sProp 𝕄 := iprop(∃ X, owns (c : Thread nD τ) (inS k) fullShare X)
/-- An outgoing slot holding the product for the device `k` places on, an incoming one the product from `k` places back. -/
def outFull (c : Dev nD) (k : Fin 8) : sProp 𝕄 := owns (c : Thread nD τ) (outS k) fullShare (part m ρ c (c + k))
def inFull (c : Dev nD) (k : Fin 8) : sProp 𝕄 := owns (c : Thread nD τ) (inS k) fullShare (part m ρ (c - k) c)

omit [FloatOps F] in
instance outFree_storable (c : Dev nD) (k : Fin 8) : BI.Storable (upEmb : UEmb _ 𝕄) (outFree (F := F) c k) := by unfold outFree; infer_instance
omit [FloatOps F] in
instance inFree_storable (c : Dev nD) (k : Fin 8) : BI.Storable (upEmb : UEmb _ 𝕄) (inFree (F := F) c k) := by unfold inFree; infer_instance
instance inFull_storable (c : Dev nD) (k : Fin 8) : BI.Storable (upEmb : UEmb _ 𝕄) (inFull m ρ c k) := by unfold inFull; infer_instance

/-- The offset a transfer semaphore belongs to. -/
def lane (q : DmaSem sig) : Fin 8 := ⟨(q.val - 3) % 8, Nat.mod_lt _ (by decide)⟩
theorem lane_move (b : Bool) (k : Fin 8) : lane (moveS b k) = k := by revert b k; decide

/-- Who contributes what. A device's door takes one unit from each other device, named by how many places on that device
    sits, which lends its incoming slot of that number. A departure gives the outgoing slot back, an
    arrival delivers the incoming slot filled. -/
def plan : Rounds.Schedule (GSem nD τ sig) (Fin 8) 𝕄 where
  duties g r := if r = 0 ∧ g.1.2 = .tc then
      (match g.2 with
        | .reg _ => Finset.univ.erase 0
        | .dma q => if 3 ≤ q.val ∧ lane q ≠ 0 then {0} else ∅)
    else ∅
  unitless _ := False
  amount g _ _ := match g.2 with | .reg _ => 1 | .dma _ => N
  payload g _ d := match g.2 with
    | .reg _ => inFree (g.1.1 + d) d
    | .dma q => if q.val < 11 then outFree g.1.1 (lane q) else inFull m ρ g.1.1 (lane q)
  amount_pos g _ _ _ := by rcases g with ⟨_, _ | _⟩; exacts [Nat.one_pos, N_pos]

instance plan_storable (g : GSem nD τ sig) (r : ℕ) (d : Fin 8) : BI.Storable (upEmb : UEmb _ 𝕄) ((plan m ρ).payload g r d) := by
  rcases g with ⟨⟨c, k⟩, _ | q⟩
  · exact inFree_storable _ _
  · show BI.Storable upEmb (if q.val < 11 then outFree c (lane q) else inFull m ρ c (lane q))
    split <;> infer_instance

section Rows
variable (c : Dev nD) (k : Fin 8)

theorem duties_door : (plan m ρ).duties (door c) 0 = Finset.univ.erase 0 := by
  dsimp only [plan]; exact if_pos ⟨rfl, rfl⟩
theorem duties_move (b : Bool) (hk : k ≠ 0) : (plan m ρ).duties (cell (c, some (b, k))) 0 = {0} := by
  dsimp only [plan]
  rw [if_pos ⟨rfl, rfl⟩, lane_move]
  exact if_pos ⟨by revert b k; decide, hk⟩
theorem duties_later (g : GSem nD τ sig) : ∀ r, 1 ≤ r → (plan m ρ).duties g r = ∅ :=
  fun r hr => by dsimp only [plan]; exact if_neg fun h => by omega
/-- The cells of offset zero are never used. -/
theorem duties_idle (b : Bool) : ∀ r, 0 ≤ r → (plan m ρ).duties (cell (c, some (b, 0))) r = ∅ := fun r _ => by
  dsimp only [plan]
  rw [lane_move]
  split
  · exact if_neg fun h => h.2 rfl
  · rfl

theorem pay_door : (plan m ρ).payload (door c) 0 k = inFree (c + k) k := rfl
theorem pay_leave : (plan m ρ).payload (leave c k) 0 0 = outFree c k := by
  show (if (moveS false k).val < 11 then outFree c (lane (moveS false k)) else inFull m ρ c (lane (moveS false k))) = _
  rw [lane_move, if_pos (by revert k; decide)]
theorem pay_land : (plan m ρ).payload (land c k) 0 0 = inFull m ρ c k := by
  show (if (moveS true k).val < 11 then outFree c (lane (moveS true k)) else inFull m ρ c (lane (moveS true k))) = _
  rw [lane_move, if_neg (by revert k; decide)]

theorem expect_door : (plan m ρ).expect (door c) 0 = 7 := by
  unfold Schedule.expect Schedule.amountOf
  rw [duties_door]; rfl
theorem expect_move (b : Bool) (hk : k ≠ 0) : (plan m ρ).expect (cell (c, some (b, k))) 0 = N := by
  unfold Schedule.expect Schedule.amountOf
  rw [duties_move m ρ c k b hk, Finset.sum_singleton]; rfl

end Rows

/-! ## What is owed, and in which order -/

/-- Seven offsets, in program order. -/
abbrev hops : List (Fin 8) := [1, 2, 3, 4, 5, 6, 7]

/-- The transfers still to be made to the offsets of a list; -/
def dueMoves (c : Dev nD) : List (Fin 8) → CellTallies nD τ sig Unit
  | [] => 0
  | k :: ks => dueMoves c ks + tallyAt (land (c + k) k) () N
/-- and, all transfers outstanding, the signals still to be given. -/
def dueKnocks (c : Dev nD) : List (Fin 8) → CellTallies nD τ sig Unit
  | [] => dueMoves c hops
  | k :: ks => dueKnocks c ks + tallyAt (door (c + k)) () 1
/-- All a device owes at the start. -/
def debt (c : Dev nD) : CellTallies nD τ sig Unit := dueKnocks c hops

/-- The order of waiting: staging and departures, then the door, then arrivals. -/
def rank (g : GSem nD τ sig) (_ : Unit) : ℕ := match g.2 with
  | .reg _ => 1
  | .dma q => if q.val < 11 then 0 else 2
def ranked (g : GSem nD τ sig) : Finset Unit := if g.1.2 = .tc then {()} else ∅
theorem ranked_tc (c : Dev nD) (sm : SemLoc sig) : ranked ((c : Thread nD τ), sm) = {()} := if_pos rfl
theorem ranked_other (g : GSem nD τ sig) (h : g.1.2 ≠ .tc) : ranked g = ∅ := if_neg h
theorem rank_land (c : Dev nD) (k : Fin 8) : rank (land c k) () = 2 := by
  show (if (moveS true k).val < 11 then 0 else 2) = 2
  rw [if_neg (by revert k; decide)]

/-- A transfer still due is due at an arrival. -/
theorem dueMoves_pos {c : Dev nD} {ks : List (Fin 8)} {g : GSem nD τ sig} {u : Unit} (h : 0 < dueMoves c ks g u) :
    ∃ d k, g = land d k := by
  induction ks with
  | nil => exact absurd h (Nat.lt_irrefl 0)
  | cons k ks ih =>
    unfold dueMoves at h
    rw [Pi.add_apply, Finsupp.add_apply, tallyAt_apply] at h
    by_cases hg : g = land (c + k) k ∧ u = ()
    · exact ⟨_, _, hg.1⟩
    · rw [if_neg hg] at h; exact ih h
/-- Whatever is due is due at a door or at an arrival. -/
theorem dueKnocks_pos {c : Dev nD} {ks : List (Fin 8)} {g : GSem nD τ sig} {u : Unit} (h : 0 < dueKnocks c ks g u) :
    (∃ d, g = door d) ∨ ∃ d k, g = land d k := by
  induction ks with
  | nil => exact .inr (dueMoves_pos h)
  | cons k ks ih =>
    unfold dueKnocks at h
    rw [Pi.add_apply, Finsupp.add_apply, tallyAt_apply] at h
    by_cases hg : g = door (c + k) ∧ u = ()
    · exact .inl ⟨_, hg.1⟩
    · rw [if_neg hg] at h; exact ih h

omit [FloatOps F] in
/-- A device may wait on a cell of its own that ranks below all it owes. -/
theorem mayWait_below (c : Dev nD) (sm : SemLoc sig) (O : CellTallies nD τ sig Unit) (n : ℕ)
    (hsm : rank ((c : Thread nD τ), sm) () ≤ n) (hO : ∀ g u, 0 < O g u → g.1.2 = .tc ∧ n < rank g u) :
    (levAts ranked rank : sProp 𝕄) ⊢ MayWait (c : Thread nD τ) sm () O :=
  MayOwe.of_cut (L := ranked) (lev := rank) n
    (fun p hp => by rw [Finset.mem_singleton.mp hp, ranked_tc]; exact Finset.mem_singleton_self _)
    (fun g u hg => by unfold ranked; rw [if_pos (hO g u hg).1]; exact Finset.mem_singleton_self _)
    (fun p hp => by rw [Finset.mem_singleton.mp hp]; exact hsm)
    (fun g u hg => (hO g u hg).2)

omit [FloatOps F] in
/-- At its door a device owes transfers only, all to arrivals. -/
theorem mayWait_door (c : Dev nD) : (levAts ranked rank : sProp 𝕄) ⊢ MayWait (c : Thread nD τ) (.reg doorS) () (dueMoves c hops) :=
  mayWait_below c _ _ 1 le_rfl fun g u hg => by
    obtain ⟨d, k, rfl⟩ := dueMoves_pos hg
    exact ⟨rfl, by rw [rank_land]; decide⟩

omit [FloatOps F] in
/-- While the pipeline copies the blocks in and out a device owes all or nothing. -/
theorem mayWait_copy (c : Dev nD) (q : DmaSem sig) (hq : q.val < 11) (O : CellTallies nD τ sig Unit) (hO : O = debt c ∨ O = 0) :
    (levAts ranked rank : sProp 𝕄) ⊢ MayWait (c : Thread nD τ) (.dma q) () O := by
  rcases hO with rfl | rfl
  · refine mayWait_below c _ _ 0 (le_of_eq (if_pos hq)) fun g u hg => ?_
    rcases dueKnocks_pos hg with ⟨d, rfl⟩ | ⟨d, k, rfl⟩
    · exact ⟨rfl, Nat.one_pos⟩
    · exact ⟨rfl, by rw [rank_land]; decide⟩
  · rw [MayWait_zero]; iintro -; iempintro

end Cert.Scatter

end
-- ==== Proof.Slots.lean ====
/-
# Slots: cutting a scratch buffer into its eight slots and putting it together again

A scratch buffer is eight slots of one product each. A transfer names a slot with its leading axis dropped, a load or
a store with it kept: both are the same elements of the same buffer, and what is written under one name is read back
under the other.
-/
module

public import proofs.«01_k».proof.Proof.Plan
public import Idealize.ShloMosaic.Lib.ViewIndex

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## The eight slots tile the buffer -/

theorem mem_slot {k : Fin 8} {i : S8x128x1024.Idx} : i ∈ (slotR k).set ↔ (i 0).val = k.val := by
  rw [Rect.mem_set_unit]
  constructor
  · intro h
    have := h 0
    simp only [Matrix.cons_val_zero] at this
    have h1 : S1x128x1024.size 0 = 1 := rfl
    omega
  · intro h a
    fin_cases a
    · have h1 : S1x128x1024.size 0 = 1 := rfl
      exact ⟨le_of_eq h.symm, by show (i 0).val < k.val + 1; omega⟩
    · exact ⟨Nat.zero_le _, by show (i 1).val < 0 + 128; have := (i 1).isLt; change (i 1).val < 128 at this; omega⟩
    · exact ⟨Nat.zero_le _, by show (i 2).val < 0 + 1024; have := (i 2).isLt; change (i 2).val < 1024 at this; omega⟩

theorem slots_apart (k k' : Fin 8) (h : k ≠ k') : Disjoint (slotR k).set (slotR k').set :=
  Finset.disjoint_left.mpr fun i hi hi' => h (Fin.ext ((mem_slot.mp hi).symm.trans (mem_slot.mp hi')))

theorem slots_cover : (Finset.univ : Finset (Fin 8)).biUnion (fun k => (slotR k).set) = Finset.univ :=
  Finset.eq_univ_iff_forall.mpr fun i => Finset.mem_biUnion.mpr ⟨⟨(i 0).val, (i 0).isLt⟩, Finset.mem_univ _, mem_slot.mpr rfl⟩

/-- There is an element of every type. -/
theorem elt_nonempty (e : EltTy) : Nonempty (Elt F e) := by
  cases e <;> first | exact ⟨(0 : BitVec _)⟩ | exact ⟨FloatOps.ofBits _ 0⟩

section Cut
variable (c : Dev nD) (M : Memref sig .tc .vmem S8x128x1024 .bf16)

omit [FloatOps F] in
/-- A scratch buffer owned is its slots owned, each at whatever it holds. -/
theorem cut_slots (f : M.view.ty.Contents (Elt F)) :
    (M.view.loc (c : Thread nD τ) ↦[M.view.set]{fullShare} f : sProp 𝕄)
      ⊢ bigSep Finset.univ fun k : Fin 8 => iprop(∃ X, owns (c : Thread nD τ) (M.slice (slotR k) (fun _ => rfl)) fullShare X) := by
  rw [pointsTo_rects (c : Thread nD τ) M fullShare slotR (fun _ _ => rfl) slots_apart slots_cover f]
  exact bigSep_mono fun k _ => exists_intro (Φ := fun X => owns (c : Thread nD τ) (M.slice (slotR k) (fun _ => rfl)) fullShare X) _

omit [FloatOps F] in
/-- Contents given for each of a family of disjoint rectangles are those of one contents of the whole. -/
theorem glue_contents {T : Type} {sh : Shape} {V : Type} [Nonempty V] (r : T → Rect sh) (hd : ∀ t t', t ≠ t' → Disjoint (r t).set (r t').set)
    (X : (t : T) → (r t).shape.Idx → V) : ∃ Y : sh.Idx → V, ∀ t j, Y ((r t).emb j) = X t j := by
  have inj : Function.Injective fun p : (t : T) × (r t).shape.Idx => (r p.1).emb p.2 := by
    rintro ⟨t, j⟩ ⟨t', j'⟩ h
    by_cases ht : t = t'
    · subst ht
      exact congrArg _ ((r t).emb.injective h)
    · have here (u : T) (i : (r u).shape.Idx) : (r u).emb i ∈ (r u).set := by
        rw [← Rect.map_emb_univ]; exact Finset.mem_map_of_mem _ (Finset.mem_univ i)
      exact absurd (here t' j') (Finset.disjoint_left.mp (hd t t' ht) (by
        rw [← show (r t).emb j = (r t').emb j' from h]; exact here t j))
  exact ⟨Function.extend (fun p : (t : T) × (r t).shape.Idx => (r p.1).emb p.2) (fun p => X p.1 p.2) (fun _ => Classical.arbitrary _),
    fun t j => inj.extend_apply (fun p : (t : T) × (r t).shape.Idx => X p.1 p.2) _ ⟨t, j⟩⟩

/-- The slots owned, each at whatever it holds, are the buffer owned. -/
theorem glue_slots :
    (bigSep Finset.univ fun k : Fin 8 => iprop(∃ X, owns (c : Thread nD τ) (M.slice (slotR k) (fun _ => rfl)) fullShare X))
      ⊢ (iprop(∃ f, M.view.loc (c : Thread nD τ) ↦[M.view.set]{fullShare} f) : sProp 𝕄) := by
  haveI (e : EltTy) : Nonempty (Elt F e) := elt_nonempty e
  haveI (k : Fin 8) : Nonempty ((slotR k).shape.Idx → Elt F .bf16) := ⟨fun _ => Classical.arbitrary _⟩
  refine (BI.bigSep_exists_pi Finset.univ
    (fun (k : Fin 8) (X : (slotR k).shape.Idx → Elt F .bf16) => (owns (c : Thread nD τ) (M.slice (slotR k) (fun _ => rfl)) fullShare X : sProp 𝕄))).trans ?_
  iintro ⟨%X, H⟩
  obtain ⟨Y, hY⟩ := glue_contents slotR slots_apart X
  ihave H' := ((Entails.of_eq (bigSep_congr fun k _ => by rw [show X k = fun j => Y ((slotR k).emb j) from funext fun j => (hY k j).symm])).trans
    (owns_of_rects (c : Thread nD τ) M fullShare slotR (fun _ _ => rfl) slots_apart slots_cover Y)) $$ H
  unfold owns
  icases H' with ⟨%f, -, H'⟩
  iexists f
  iexact H'

end Cut

/-! ## The two scratch buffers -/

omit [FloatOps F] in
theorem whole_pts (c : Dev nD) (b : Ref sig .tc) (f : b.ty.Contents (Elt F)) :
    ((Memref.whole b).view.loc (c : Thread nD τ) ↦[(Memref.whole b).view.set]{fullShare} f : sProp 𝕄) = (((c : Thread nD τ).loc b) ↦{fullShare} f) := by
  simp only [Memref.view_whole, View.set_whole]

omit [FloatOps F] in
theorem cut_out (c : Dev nD) (f : Buf (Elt F) ((c : Thread nD τ).loc cc0_scratch0)) :
    (((c : Thread nD τ).loc cc0_scratch0) ↦{fullShare} f : sProp 𝕄) ⊢ bigSep Finset.univ fun k => outFree c k :=
  (Entails.of_eq (whole_pts c cc0_scratch0 f).symm).trans (cut_slots c outM f)
omit [FloatOps F] in
theorem cut_in (c : Dev nD) (f : Buf (Elt F) ((c : Thread nD τ).loc cc0_scratch1)) :
    (((c : Thread nD τ).loc cc0_scratch1) ↦{fullShare} f : sProp 𝕄) ⊢ bigSep Finset.univ fun k => inFree c k :=
  (Entails.of_eq (whole_pts c cc0_scratch1 f).symm).trans (cut_slots c inM f)
theorem glue_out (c : Dev nD) :
    (bigSep Finset.univ fun k => outFree c k : sProp 𝕄) ⊢ iprop(∃ f : Buf (Elt F) ((c : Thread nD τ).loc cc0_scratch0), ((c : Thread nD τ).loc cc0_scratch0) ↦{fullShare} f) := by
  refine (glue_slots c outM).trans ?_
  iintro ⟨%f, H⟩
  iexists f
  iapply (Entails.of_eq (whole_pts c cc0_scratch0 f)) $$ H
theorem glue_in (c : Dev nD) :
    (bigSep Finset.univ fun k => inFree c k : sProp 𝕄) ⊢ iprop(∃ f : Buf (Elt F) ((c : Thread nD τ).loc cc0_scratch1), ((c : Thread nD τ).loc cc0_scratch1) ↦{fullShare} f) := by
  refine (glue_slots c inM).trans ?_
  iintro ⟨%f, H⟩
  iexists f
  iapply (Entails.of_eq (whole_pts c cc0_scratch1 f)) $$ H

/-- A filled slot is a slot. -/
theorem inFull_free (c : Dev nD) (k : Fin 8) : (inFull m ρ c k : sProp 𝕄) ⊢ inFree c k := by
  unfold inFull inFree
  iintro H
  iexists _
  iexact H

/-! ## Writing a slot and reading it back -/

omit [FloatOps F] in
/-- What a transfer leaves in the receiver's slot is what the sender's slot reads. -/
theorem read_moved (k : Fin 8) (fs : outM.view.ty.Contents (Elt F)) (fd : inM.view.ty.Contents (Elt F)) :
    (inS k).view.read (Elt F) ((inQ k).view.write (Elt F) fd ((outQ k).view.read (Elt F) fs) Finset.univ) = (outS k).view.read (Elt F) fs := by
  funext y
  obtain ⟨x, rfl⟩ := (Shape.reshapeEquiv squeezes_S1x128x1024_S128x1024.numel_eq).surjective y
  exact View.read_write_reshape (inS k).view _ fd _ x

end Cert.Scatter

end
-- ==== Proof.Steps.lean ====
/-
# The steps of the body, one rule per kind

The body does the same few things for each offset round the ring: knock at a door, make a product and put it in a
slot, send the slot, wait for a slot to arrive or to leave, read a slot. Each is proved here once, for every offset.
The operation's rectangles, semaphores and target device come in as the program spells them, with the equation that says
which slot, semaphore or device that is.
-/
module

public import proofs.«01_k».proof.Proof.Slots

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

abbrev 𝒱₀ : Variants := Variants.none

/-- Device `c` runs `p` and ends with `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What everybody knows throughout: the cells' invariants under their names, that every cell is in use, the ranks. -/
def watch (K : Dev nD × Spot → ℕ) : sProp 𝕄 :=
  iprop((bigSep Finset.univ fun p : Dev nD × Spot => cellInv ringE (plan m ρ) (K p) (cell p))
    ∗ (bigSep Finset.univ fun p : Dev nD × Spot => reached ringE (cell p) 0) ∗ levAts ranked rank)

instance watch_persistent (K : Dev nD × Spot → ℕ) : BI.Persistent (watch m ρ K) := by unfold watch; infer_instance

/-- What a device still owes, whatever it has waited on so far. -/
def owing (c : Dev nD) (O : CellTallies nD τ sig Unit) : sProp 𝕄 := iprop(∃ W, owes (c : Thread nD τ) O W)

/-- The two input blocks, in place. -/
def inputs (c : Dev nD) : sProp 𝕄 :=
  iprop((((c : Thread nD τ).loc cc0_stg0_0) ↦{fullShare} xAt m ρ c) ∗ (((c : Thread nD τ).loc cc0_stg1_0) ↦{fullShare} wAt m ρ c))

variable (K : Dev nD × Spot → ℕ) (c : Dev nD) {α : Type} {Q : α → sProp (MT nD τ sig Unit (Elt F) ℕ AllU ℕ)}

theorem watch_cell (p : Dev nD × Spot) : watch m ρ K ⊢ cellInv ringE (plan m ρ) (K p) (cell p) := by
  unfold watch
  iintro ⟨H, -, -⟩
  iapply (show (bigSep Finset.univ fun p : Dev nD × Spot => (cellInv ringE (plan m ρ) (K p) (cell p) : sProp 𝕄)) ⊢ cellInv ringE (plan m ρ) (K p) (cell p)
    from bigSep_elim (Finset.mem_univ p)) $$ H
theorem watch_reached (p : Dev nD × Spot) : watch m ρ K ⊢ reached ringE (cell p) 0 := by
  unfold watch
  iintro ⟨-, H, -⟩
  iapply (show (bigSep Finset.univ fun p : Dev nD × Spot => (reached ringE (cell p) 0 : sProp 𝕄)) ⊢ reached ringE (cell p) 0
    from bigSep_elim (Finset.mem_univ p)) $$ H
theorem watch_ranks : watch m ρ K ⊢ levAts ranked rank := by
  unfold watch
  iintro ⟨-, -, H⟩
  iexact H

/-! ## The entry handshake -/

/-- Knock at the door `k` places on, lending the incoming slot that device will write to. -/
theorem knock (k : Fin 8) (hk : k ≠ 0) (n : Dev nD) (hn : n = c + k) (a : Int) (ha : a = 1) (ks : List (Fin 8))
    {cont : PUnit → Prog (TpuEff nD τ sig (Elt F) Λ₀ .tc) α} :
    watch m ρ K
      ⊢ iprop(owing c (dueKnocks c (k :: ks)) -∗ dutyTok ringE (door (c + k)) 0 (-k) -∗ inFree c (-k) -∗ (owing c (dueKnocks c ks) -∗ runs c (cont PUnit.unit) Q)
          -∗ runs c (.op (.semSignal ((n, Proc.tc) : Thread nD τ) doorS a) cont) Q) := by
  subst hn ha
  unfold owing
  iintro #HW ⟨%W, Ho⟩ Ht Hs Hk
  iapply (Rounds.wp_signal 𝒱₀ ringE (plan m ρ) (c : Thread nD τ) none (dst := ((c + k : Dev nD) : Thread nD τ)) (κ := K (c + k, none))
    (d := -k) (k' := 1) (by rw [duties_door]; exact Finset.mem_erase.mpr ⟨back_ne hk, Finset.mem_univ _⟩) rfl () (dueKnocks c ks) rfl) $$ [Ho Ht Hs]
  · isplitr; · iapply (watch_cell m ρ K (c + k, none)); iexact HW
    isplitl [Ho]; · iexact Ho
    isplitl [Ht]; · iexact Ht
    isplitl [Hs]
    · rw [pay_door, there_back]; iexact Hs
    iapply (watch_reached m ρ K (c + k, none)); iexact HW
  iintro Ho
  iapply Hk
  iexists W
  iexact Ho

/-- Wait at one's own door for all seven: their incoming slots come with them. -/
theorem enter (a : Int) (ha : a = 7) {cont : PUnit → Prog (TpuEff nD τ sig (Elt F) Λ₀ .tc) α} :
    watch m ρ K
      ⊢ iprop(owing c (dueKnocks c []) -∗ cred (tallyAt (door c) () 7) -∗ atPos ringE (door c) 0 ∅ 0 -∗ ((owing c (dueMoves c hops) ∗ atPos ringE (door c) 1 ∅ 0 ∗ bigSep (Finset.univ.erase 0) fun k => inFree (c + k) k) -∗ runs c (cont PUnit.unit) Q)
          -∗ runs c (.op (.semWait doorS a) cont) Q) := by
  subst ha
  unfold owing
  iintro #HW ⟨%W, Ho⟩ Hc Hp Hk
  iapply (Rounds.wp_wait_rest_token 𝒱₀ ringE (plan m ρ) (c : Thread nD τ) none (κ := K (c, none)) (k' := 7)
    (wpE_semWait_eq 𝒱₀ (c : Thread nD τ) none Set.univ) (Set.mem_univ _) () (O := dueMoves c hops) (W := W) (R := 0) (m := 0) (T := ∅)
    (by rw [expect_door])) $$ [Ho Hc Hp]
  · isplitr; · iapply (watch_cell m ρ K (c, none)) $$ HW
    isplitl [Hc]; · iexact Hc
    isplitl [Ho]; · iexact Ho
    isplitr
    · iapply (mayWait_door c)
      iapply (watch_ranks m ρ K) $$ HW
    iexact Hp
  iintro ⟨Ho, Hp, -, Hs⟩
  iapply Hk
  isplitl [Ho]; · iexists _; iexact Ho
  isplitl [Hp]; · iexact Hp
  ihave Hs' := (Entails.of_eq (show bigSep ((plan m ρ).duties (door c) 0 \ ∅) (fun d => (plan m ρ).payload (door c) 0 d)
    = bigSep (Finset.univ.erase 0) fun k => inFree (c + k) k by rw [Finset.sdiff_empty, duties_door]; rfl)) $$ Hs
  iexact Hs'

/-! ## Products and slots -/

theorem no_offset : (![0, 0] : Fin 2 → ℕ) = fun _ => 0 := funext fun a => by fin_cases a <;> rfl
omit [FloatOps F] in
theorem read_w (f : Vec F S128x1024 .bf16) : wM.view.readAt (Elt F) allR.toLoadRect f = f :=
  Memref.readAt_unit_zero (Elt F) cc0_stg1_0 no_offset _ f

/-- Make the product for the device `k` places on and store it in outgoing slot `k`. -/
theorem fill (k : Fin 8) {offX : Fin 2 → ℕ} (hX : offX = ![128 * (c + k).val, 0]) {inbX : ∀ a, offX a + S128x128.size a ≤ S1024x128.size a}
    {offS : Fin 3 → ℕ} (hS : offS = ![k.val, 0, 0]) {inbS : ∀ a, offS a + S1x128x1024.size a ≤ S8x128x1024.size a}
    {pay : Vec F S128x128 .bf16 → Vec F S128x1024 .bf16 → Vec F S1x128x1024 .bf16} (hpay : ∀ a b, pay a b = k0_pay1 a b)
    {hl₁ : xM.view.LoadsAt (Rect.unit (s := S1024x128) offX S128x128.size inbX).toLoadRect} {hl₂ : wM.view.LoadsAt allR.toLoadRect}
    {hl₃ : outM.view.LoadsAt (Rect.unit (s := S8x128x1024) offS S1x128x1024.size inbS).toLoadRect}
    {hx : (outM.access (Rect.unit (s := S8x128x1024) offS S1x128x1024.size inbS) : View sig .tc _ _ _).Stores Finset.univ}
    {hm : (Finset.univ : Finset (Rect.unit (s := S8x128x1024) offS S1x128x1024.size inbS).shape.Idx) = Finset.univ ∨ ∀ a, (Rect.unit (s := S8x128x1024) offS S1x128x1024.size inbS).stride a = 1}
    {cont : PUnit → Prog (TpuEff nD τ sig (Elt F) Λ₀ .tc) α} :
    inputs m ρ c
      ⊢ iprop(outFree c k -∗ ((inputs m ρ c ∗ outFull m ρ c k) -∗ runs c (cont PUnit.unit) Q)
          -∗ runs c (.op (.load xM (Rect.unit (s := S1024x128) offX S128x128.size inbX).toLoadRect hl₁) fun a =>
              .op (.load wM allR.toLoadRect hl₂) fun b =>
              .op (.load outM (Rect.unit (s := S8x128x1024) offS S1x128x1024.size inbS).toLoadRect hl₃) fun _ =>
              .op (.store outM (Rect.unit (s := S8x128x1024) offS S1x128x1024.size inbS) (pay a b) Finset.univ hx hm) cont) Q) := by
  subst hX hS
  unfold inputs outFree owns
  iintro ⟨Hx, Hw⟩ ⟨%X, %f, %hf, Hs⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := outM) (S := (outS k).view.set) (by
    rw [show (outS k).view.set = (outM.view.slice (slotR k)).set from rfl, View.set_slice]; exact le_rfl)) $$ Hs; iintro Hs
  iapply (wp_store 𝒱₀ (c : Thread nD τ) none Set.univ (m := outM) (r := slotR k) (S := (outS k).view.set) (by rw [View.setOn_univ])) $$ Hs; iintro Hs
  iapply Hk
  isplitl [Hx Hw]
  · isplitl [Hx]; · iexact Hx
    iexact Hw
  unfold outFull owns
  iexists _
  isplitr [Hs]
  swap
  · iexact Hs
  · ipureintro
    rw [hpay]
    refine (View.read_write_univ (v := (outS k).view) f _).trans ?_
    unfold part xRows
    rw [read_w]

/-- Read one's own row block of `x`, and `w`. -/
theorem own_rows {offX : Fin 2 → ℕ} (hX : offX = ![128 * c.val, 0]) {inbX : ∀ a, offX a + S128x128.size a ≤ S1024x128.size a}
    {hl₁ : xM.view.LoadsAt (Rect.unit (s := S1024x128) offX S128x128.size inbX).toLoadRect} {hl₂ : wM.view.LoadsAt allR.toLoadRect}
    {cont : Vec F S128x128 .bf16 → Vec F S128x1024 .bf16 → Prog (TpuEff nD τ sig (Elt F) Λ₀ .tc) α} :
    inputs m ρ c
      ⊢ iprop((inputs m ρ c -∗ runs c (cont (xRows m ρ c c) (wAt m ρ c)) Q)
          -∗ runs c (.op (.load xM (Rect.unit (s := S1024x128) offX S128x128.size inbX).toLoadRect hl₁) fun a =>
              .op (.load wM allR.toLoadRect hl₂) fun b => cont a b) Q) := by
  subst hX
  unfold inputs
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_w]
  unfold xRows
  iapply Hk
  isplitl [Hx]; · iexact Hx
  iexact Hw

/-- Write the result. -/
theorem finish (f w : Vec F S128x1024 .f32) {hl : oM.view.LoadsAt allR.toLoadRect}
    {hx : (oM.access allR : View sig .tc _ _ _).Stores Finset.univ} {hm : (Finset.univ : Finset allR.shape.Idx) = Finset.univ ∨ ∀ a, allR.stride a = 1}
    {cont : PUnit → Prog (TpuEff nD τ sig (Elt F) Λ₀ .tc) α} :
    (((c : Thread nD τ).loc cc0_stg2_0) ↦{fullShare} f : sProp (MT nD τ sig Unit (Elt F) ℕ AllU ℕ))
      ⊢ iprop(((((c : Thread nD τ).loc cc0_stg2_0) ↦{fullShare} w) -∗ runs c (cont PUnit.unit) Q)
          -∗ runs c (.op (.load oM allR.toLoadRect hl) fun _ => .op (.store oM allR w Finset.univ hx hm) cont) Q) := by
  iintro Ho Hk
  iapply (wp_load 𝒱₀ (c : Thread nD τ) none Set.univ (m := oM) (Finset.subset_univ _)) $$ Ho; iintro Ho
  iapply (wp_store 𝒱₀ (c : Thread nD τ) none Set.univ (m := oM) (r := allR) (Mk := Finset.univ) (Finset.subset_univ _)) $$ Ho; iintro Ho
  rw [show ((oM.access allR : View sig .tc _ _ _).write (Elt F) f w Finset.univ) = w from
    Memref.write_access_unit_zero_univ (Elt F) cc0_stg2_0 no_offset _ f w]
  iapply Hk
  iexact Ho

/-- Send outgoing slot `k` to incoming slot `k` of the device `k` places on. -/
theorem send (k : Fin 8) (hk : k ≠ 0) (n : Dev nD) (hn : n = c + k) (ks : List (Fin 8))
    {off : Fin 3 → ℕ} (hoff : off = ![k.val, 0, 0]) {inb : ∀ a, off a + S1x128x1024.size a ≤ S8x128x1024.size a}
    {sL sA : DmaSem sig} (hL : sL = moveS false k) (hA : sA = moveS true k)
    {hsc : ((inM.slice (Rect.unit (s := S8x128x1024) off S1x128x1024.size inb) (fun _ => rfl)).squeeze S128x1024 squeezes_S1x128x1024_S128x1024 : Memref sig (Dev.tc n : Thread nD τ).2.kind .vmem S128x1024 .bf16).view.ref.isScScratch = false}
    {hsrc : ((outM.slice (Rect.unit (s := S8x128x1024) off S1x128x1024.size inb) (fun _ => rfl)).squeeze S128x1024 squeezes_S1x128x1024_S128x1024).view.WordExact}
    {hdst : ((inM.slice (Rect.unit (s := S8x128x1024) off S1x128x1024.size inb) (fun _ => rfl)).squeeze S128x1024 squeezes_S1x128x1024_S128x1024).view.WordExact}
    {hsem : DmaTarget.Typed .vmem (.dma sA) (.remote (Dev.tc n : Thread nD τ)
      ((inM.slice (Rect.unit (s := S8x128x1024) off S1x128x1024.size inb) (fun _ => rfl)).squeeze S128x1024 squeezes_S1x128x1024_S128x1024) (.dma sL) hsc)}
    {cont : PUnit → Prog (TpuEff nD τ sig (Elt F) Λ₀ .tc) α} :
    watch m ρ K
      ⊢ iprop(outFull m ρ c k -∗ inFree (c + k) k -∗ owing c (dueMoves c (k :: ks)) -∗ dutyTok ringE (leave c k) 0 0 -∗ dutyTok ringE (land (c + k) k) 0 0 -∗ ((cred (tallyAt (leave c k) () N) ∗ owing c (dueMoves c ks)) -∗ runs c (cont PUnit.unit) Q)
          -∗ runs c (.op (.enqueueDma ((outM.slice (Rect.unit (s := S8x128x1024) off S1x128x1024.size inb) (fun _ => rfl)).squeeze S128x1024 squeezes_S1x128x1024_S128x1024)
              (.remote (Dev.tc n : Thread nD τ) ((inM.slice (Rect.unit (s := S8x128x1024) off S1x128x1024.size inb) (fun _ => rfl)).squeeze S128x1024 squeezes_S1x128x1024_S128x1024) (.dma sL) hsc)
              (.dma sA) hsrc hdst hsem) cont) Q) := by
  subst hn hoff hL hA
  unfold owing outFull inFree owns
  iintro #HW ⟨%fs, %hfs, Hs⟩ ⟨%X, %fd, -, Hd⟩ ⟨%W, Ho⟩ HtL HtA Hk
  iapply (Rounds.wp_send_pointsTo 𝒱₀ ringE (plan m ρ) (c : Thread nD τ) none (c' := ((c + k : Dev nD) : Thread nD τ)) (κ₁ := K (c, some (false, k))) (κ₂ := K (c + k, some (true, k)))
    (src := outQ k) (dst := inQ k) (sS := .dma (moveS false k)) (sem := .dma (moveS true k))
    (r₁ := 0) (r₂ := 0) (d₁ := 0) (d₂ := 0) (fs := fs) (fd := fd) (q := fullShare)
    (by rw [duties_move m ρ c k false hk]; exact Finset.mem_singleton_self _) (by rw [duties_move m ρ (c + k) k true hk]; exact Finset.mem_singleton_self _)
    () () N (credit_in k) rfl rfl (dueMoves c ks) rfl (W := W)
    (by
      rw [pay_leave]
      unfold outFree
      rw [View.set_reshape]
      exact (owns_intro (c : Thread nD τ) (outS k) fullShare fs).trans (exists_intro (Φ := fun X => owns (c : Thread nD τ) (outS k) fullShare X) _))
    (by
      rw [pay_land]
      unfold inFull
      rw [there_less, ← hfs, ← read_moved k fs fd, View.set_reshape]
      exact owns_intro ((c + k : Dev nD) : Thread nD τ) (inS k) fullShare _)) $$ [Hs Hd Ho HtL HtA]
  · isplitr; · iapply (watch_cell m ρ K (c, some (false, k))); iexact HW
    isplitr; · iapply (watch_cell m ρ K (c + k, some (true, k))); iexact HW
    isplitl [Hs]; · rw [View.set_reshape]; iexact Hs
    isplitl [Hd]; · rw [View.set_reshape]; iexact Hd
    isplitl [Ho]; · iexact Ho
    isplitl [HtL]; · iexact HtL
    isplitr; · iapply (watch_reached m ρ K (c, some (false, k))); iexact HW
    isplitl [HtA]; · iexact HtA
    iapply (watch_reached m ρ K (c + k, some (true, k))); iexact HW
  iintro ⟨Hc, Ho⟩
  iapply Hk
  isplitl [Hc]; · iexact Hc
  iexists W
  iexact Ho

/-- Wait for slot `k`'s departure or arrival, owing nothing: what that round hands over comes back. -/
theorem await (b : Bool) (k : Fin 8) (hk : k ≠ 0) {s : DmaSem sig} (hs : s = moveS b k)
    {src dst : Memref sig .tc .vmem S128x1024 .bf16} (hN : dst.view.dmaCredit = N)
    {hsrc : src.view.WordExact} {hdst : dst.view.WordExact} {P : sProp (MT nD τ sig Unit (Elt F) ℕ AllU ℕ)} (hP : (plan m ρ).payload (cell (c, some (b, k))) 0 0 = P)
    {cont : PUnit → Prog (TpuEff nD τ sig (Elt F) Λ₀ .tc) α} :
    watch m ρ K
      ⊢ iprop(owing c 0 -∗ cred (tallyAt (cell (c, some (b, k))) () N) -∗ atPos ringE (cell (c, some (b, k))) 0 ∅ 0 -∗ ((owing c 0 ∗ atPos ringE (cell (c, some (b, k))) 1 ∅ 0 ∗ P) -∗ runs c (cont PUnit.unit) Q)
          -∗ runs c (.op (.waitDma2 s src dst hsrc hdst) cont) Q) := by
  subst hs
  unfold owing
  iintro #HW ⟨%W, Ho⟩ Hc Hp Hk
  iapply (Rounds.wp_wait_rest_token 𝒱₀ ringE (plan m ρ) (c : Thread nD τ) none (κ := K (c, some (b, k))) (k' := dst.view.dmaCredit)
    (wpE_waitDma2_eq 𝒱₀ (c : Thread nD τ) none Set.univ) (Set.mem_univ _) () (O := 0) (W := W) (R := 0) (m := 0) (T := ∅)
    (by rw [expect_move m ρ c k b hk, hN, Nat.zero_add])) $$ [Ho Hc Hp]
  · isplitr; · iapply (watch_cell m ρ K (c, some (b, k))); iexact HW
    isplitl [Hc]; · rw [hN]; iexact Hc
    isplitl [Ho]; · iexact Ho
    isplitr; · rw [MayWait_zero]; iempintro
    iexact Hp
  iintro ⟨Ho, Hp, -, Hs⟩
  iapply Hk
  isplitl [Ho]; · iexists _; iexact Ho
  isplitl [Hp]; · iexact Hp
  ihave Hs' := (Entails.of_eq (show bigSep ((plan m ρ).duties (cell (c, some (b, k))) 0 \ ∅) (fun d => (plan m ρ).payload (cell (c, some (b, k))) 0 d)
    = P by rw [Finset.sdiff_empty, duties_move m ρ c k b hk, bigSep_singleton, hP])) $$ Hs
  iexact Hs'

/-- Read incoming slot `k`: the product from `k` places back. -/
theorem peek (k : Fin 8) {off : Fin 3 → ℕ} (hoff : off = ![k.val, 0, 0]) {inb : ∀ a, off a + S1x128x1024.size a ≤ S8x128x1024.size a}
    {hl : inM.view.LoadsAt (Rect.unit (s := S8x128x1024) off S1x128x1024.size inb).toLoadRect}
    {cont : Vec F S1x128x1024 .bf16 → Prog (TpuEff nD τ sig (Elt F) Λ₀ .tc) α} :
    inFull m ρ c k
      ⊢ iprop((inFull m ρ c k -∗ runs c (cont (part m ρ (c - k) c)) Q)
          -∗ runs c (.op (.load inM (Rect.unit (s := S8x128x1024) off S1x128x1024.size inb).toLoadRect hl) cont) Q) := by
  subst hoff
  unfold inFull owns
  iintro ⟨%f, %hf, Hs⟩ Hk
  iapply (wp_load 𝒱₀ (c : Thread nD τ) none Set.univ (m := inM) (S := (inS k).view.set) (by
    rw [show (inS k).view.set = (inM.view.slice (slotR k)).set from rfl, View.set_slice]; exact le_rfl)) $$ Hs
  iintro Hs
  rw [← hf]
  iapply Hk
  iexists f
  isplitr
  · ipureintro; rfl
  · iexact Hs

/-! ## The end -/

/-- A cell whose rounds are over is closed, its semaphore at zero. -/
theorem shut (p : Dev nD × Spot) (R : ℕ) (hR : ∀ r, R ≤ r → (plan m ρ).duties (cell p) r = ∅) :
    iprop(watch m ρ K ∗ atPos ringE (cell p) R ∅ 0) ⊢ iprop(|={Set.univ}=> semVal (cell p) 0) := by
  iintro ⟨#HW, Hp⟩
  iapply (Rounds.cell_close ringE (plan m ρ) (Set.mem_univ (K p)) (fun h => h) (R := R) hR)
  isplitr; · iapply (watch_cell m ρ K p); iexact HW
  iexact Hp

end Cert.Scatter

end
-- ==== Proof.Body.lean ====
/-
# The body of the kernel, run from start to end

What a device holds before its body and after it, and the run in between: one rule of the module before per effect, in
program order.
-/
module

public import proofs.«01_k».proof.Proof.Steps

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## Families over the eight offsets, written out -/

omit [FloatOps F] in
theorem eight (Φ : Fin 8 → sProp (MT nD τ sig Unit (Elt F) ℕ AllU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem seven (Φ : Fin 8 → sProp (MT nD τ sig Unit (Elt F) ℕ AllU ℕ)) :
    bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
theorem zero_and_seven (Φ : Fin 8 → sProp (MT nD τ sig Unit (Elt F) ℕ AllU ℕ)) :
    bigSep Finset.univ Φ = iprop(Φ 0 ∗ bigSep (Finset.univ.erase 0) Φ) := bigSep_erase (Finset.mem_univ 0)
omit [FloatOps F] in
/-- A family may be listed backwards round the ring. -/
theorem backwards (Φ : Fin 8 → sProp (MT nD τ sig Unit (Elt F) ℕ AllU ℕ)) :
    bigSep Finset.univ Φ = bigSep Finset.univ fun k => Φ (-k) :=
  bigSep_univ_equiv ⟨Neg.neg, Neg.neg, by decide, by decide⟩ Φ

/-- A spot is the door, a departure or an arrival. -/
def spotEquiv : Unit ⊕ (Fin 8 ⊕ Fin 8) ≃ Spot where
  toFun s := match s with | .inl _ => none | .inr (.inl k) => some (false, k) | .inr (.inr k) => some (true, k)
  invFun s := match s with | none => .inl () | some (false, k) => .inr (.inl k) | some (true, k) => .inr (.inr k)
  left_inv s := by rcases s with _ | _ | _ <;> rfl
  right_inv s := by rcases s with _ | ⟨_ | _, _⟩ <;> rfl
omit [FloatOps F] in
theorem spots (Φ : Spot → sProp (MT nD τ sig Unit (Elt F) ℕ AllU ℕ)) :
    bigSep Finset.univ Φ
      = iprop(Φ none ∗ (bigSep Finset.univ fun k => Φ (some (false, k))) ∗ (bigSep Finset.univ fun k => Φ (some (true, k)))) := by
  rw [bigSep_univ_equiv spotEquiv, bigSep_univ_sum, bigSep_univ_sum, bigSep_univ_eq_bigSepL [()] (by decide) (by decide)]
  rfl

/-! ## Before and after -/

/-- The shared knowledge that the launch sets up. -/
def known (K : Dev nD × Spot → ℕ) : sProp 𝕄 :=
  iprop((bigSep Finset.univ fun p : Dev nD × Spot => cellInv ringE (plan m ρ) (K p) (cell p))
    ∗ (bigSep Finset.univ fun p : Dev nD × Spot => reached ringE (cell p) 0))

instance known_persistent (K : Dev nD × Spot → ℕ) : BI.Persistent (known m ρ K) := by unfold known; infer_instance

/-- A device's place at each of its own cells. -/
def places (c : Dev nD) : sProp 𝕄 := bigSep Finset.univ fun s : Spot => atPos ringE (cell (c, s)) 0 ∅ 0
/-- The contributions a device makes: a knock, a departure and an arrival for each offset. -/
def tokens (c : Dev nD) : sProp 𝕄 :=
  bigSep Finset.univ fun k : Fin 8 =>
    iprop(dutyTok ringE (door (c + k)) 0 (-k) ∗ dutyTok ringE (leave c k) 0 0 ∗ dutyTok ringE (land (c + k) k) 0 0)
/-- The credit a device starts with: what the others owe it. -/
def credits (c : Dev nD) : sProp 𝕄 :=
  iprop(cred (tallyAt (door c) () 7) ∗ bigSep (Finset.univ.erase 0) fun k => cred (tallyAt (land c k) () N))

def ghost (K : Dev nD × Spot → ℕ) (c : Dev nD) : sProp 𝕄 := iprop(known m ρ K ∗ places c ∗ tokens c)
def start (c : Dev nD) : sProp 𝕄 := iprop((∃ K, ghost m ρ K c) ∗ credits c ∗ levAts ranked rank)

/-- The two scratch buffers, whatever is in them. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- The body's own semaphores, all at zero. -/
def quiet (c : Dev nD) : sProp 𝕄 :=
  iprop(semVal (door c) 0 ∗ (bigSep Finset.univ fun k => semVal (leave c k) 0) ∗ (bigSep Finset.univ fun k => semVal (land c k) 0))

def Φ₀ (c : Dev nD) : sProp 𝕄 := iprop(start m ρ c ∗ scratch c)
def Φ₁ (c : Dev nD) : sProp 𝕄 := iprop(scratch c ∗ quiet c)

/-- What the pipeline moves: the two inputs in, the result out. -/
def dats (_ : Fin 1) (c : Dev nD) : Dat τ (Elt F) Unit ℕ AllU ℕ cfg0 c where
  A w := (before₀ m ρ).mem ((cfg0.win w).arr.view.loc (c : Thread nD τ))
  after w _ := match w with
    | ⟨0, _⟩ => xAt m ρ c
    | ⟨1, _⟩ => wAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => debt c
    | ⟨_ + 1, _⟩ => 0

omit [FloatOps F] in
/-- Owning a whole buffer with given contents, both ways. -/
theorem buffer_out (c : Dev nD) (b : Ref sig .tc) (X : b.ty.Contents (Elt F)) :
    (owns (c : Thread nD τ) (Memref.whole b) fullShare X : sProp 𝕄) ⊢ (((c : Thread nD τ).loc b) ↦{fullShare} X) := by
  unfold owns
  simp only [Memref.view_whole, View.read_whole, View.set_whole]
  iintro ⟨%f, %h, H⟩
  subst h
  iexact H
omit [FloatOps F] in
theorem buffer_in (c : Dev nD) (b : Ref sig .tc) (X : b.ty.Contents (Elt F)) :
    (((c : Thread nD τ).loc b) ↦{fullShare} X : sProp 𝕄) ⊢ owns (c : Thread nD τ) (Memref.whole b) fullShare X := by
  unfold owns
  simp only [Memref.view_whole, View.read_whole, View.set_whole]
  iintro H
  iexists X
  isplitr; · ipureintro; rfl
  iexact H

section Run

variable (K : Dev nD × Spot → ℕ) (c : Dev nD)

theorem rows_at (r : Fin 7) (k : Fin 8) (h : k.val = r.val + 1) : k0_off1 c (BitVec.ofNat 32 (1 + r.val)) = ![128 * (c + k).val, 0] := by
  rw [k0_off1_eq, Fin.val_add, h, Nat.add_assoc]

/-- Close the eight cells of one kind. -/
theorem shut_lanes (b : Bool) :
    iprop(watch m ρ K ∗ atPos ringE (cell (c, some (b, 0))) 0 ∅ 0 ∗ bigSep (Finset.univ.erase 0) fun k => atPos ringE (cell (c, some (b, k))) 1 ∅ 0)
      ⊢ iprop(|={Set.univ}=> bigSep Finset.univ fun k => semVal (cell (c, some (b, k))) 0) := by
  have h : iprop(watch m ρ K ∗ bigSep Finset.univ fun k : Fin 8 => atPos ringE (cell (c, some (b, k))) (if k = 0 then 0 else 1) ∅ 0)
      ⊢ iprop(|={Set.univ}=> bigSep Finset.univ fun k => semVal (cell (c, some (b, k))) 0) :=
    (bigSep_with_persistent fun k _ => shut m ρ K (c, some (b, k)) _ (by
      split
      · rename_i h; subst h; exact duties_idle m ρ c b
      · exact duties_later m ρ _)).trans (bigSep_fupd _ _)
  rw [zero_and_seven] at h
  iintro ⟨#HW, H0, H⟩
  iapply h
  isplitr; · iexact HW
  isplitl [H0]; · iexact H0
  iapply (show bigSep (Finset.univ.erase 0) (fun k => atPos ringE (cell (c, some (b, k))) 1 ∅ 0)
    ⊢ (bigSep (Finset.univ.erase 0) (fun k => atPos ringE (cell (c, some (b, k))) (if k = 0 then 0 else 1) ∅ 0) : sProp 𝕄)
    from bigSep_mono fun k hk => by rw [if_neg (Finset.ne_of_mem_erase hk)]; exact BI.Entails.refl _) $$ H

/-- The incoming slots together again. -/
theorem emptied :
    iprop(inFree c 0 ∗ bigSep (Finset.univ.erase 0) fun k => inFull m ρ c k)
      ⊢ (iprop(∃ f : Buf (Elt F) ((c : Thread nD τ).loc cc0_scratch1), ((c : Thread nD τ).loc cc0_scratch1) ↦{fullShare} f) : sProp 𝕄) := by
  iintro ⟨H0, H⟩
  iapply (glue_in c)
  iapply (Entails.of_eq (zero_and_seven (F := F) fun k => inFree c k).symm)
  isplitl [H0]; · iexact H0
  iapply (show (bigSep (Finset.univ.erase 0) (fun k => inFull m ρ c k) : sProp 𝕄) ⊢ bigSep (Finset.univ.erase 0) (fun k => inFree c k)
    from bigSep_mono fun k _ => inFull_free m ρ c k) $$ H

/-- All that is in hand when the body starts, sorted. -/
def bodyPre : sProp 𝕄 :=
  iprop(watch m ρ K ∗ places c ∗ tokens c ∗ credits c ∗ scratch c ∗ owing c (debt c) ∗ inputs m ρ c
    ∗ (∃ f : Buf (Elt F) ((c : Thread nD τ).loc cc0_stg2_0), ((c : Thread nD τ).loc cc0_stg2_0) ↦{fullShare} f))
/-- And when it ends. -/
def bodyPost : sProp 𝕄 :=
  iprop(scratch c ∗ quiet c ∗ owing c 0 ∗ inputs m ρ c ∗ (((c : Thread nD τ).loc cc0_stg2_0) ↦{fullShare} outAt m ρ c))

set_option maxHeartbeats 4000000 in
set_option maxRecDepth 8000 in
theorem sound_body (Kt : PUnit → sProp (MT nD τ sig Unit (Elt F) ℕ AllU ℕ)) :
    iprop(bodyPre m ρ K c ∗ (bodyPost m ρ c -∗ Kt ⟨⟩))
      ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) Kt := by
  simp only [cc0_body_eq_skeleton, cc0_body_skel]
  simp only [k0_part1_eq_skeleton, k0_part1_skel, k0_part2_eq_skeleton, k0_part2_skel, semSignalWord, semWaitWord, Prog.lift, Prog.bind_op, Prog.bind_ret, Prog.pure_eq_ret, wp_deviceId]
  unfold bodyPre places tokens credits scratch debt
  rw [spots, bigSep_sep' Finset.univ, bigSep_sep' Finset.univ]
  simp only [eight, seven, hops]
  iintro ⟨⟨#HW, ⟨Hd, HP, HR⟩, ⟨HT, HL, HA⟩, ⟨Hc, HC⟩, ⟨⟨%f0, Hf0⟩, ⟨%f1, Hf1⟩⟩, Ho, HI, ⟨%fo, Hout⟩⟩, Hk⟩
  ihave HS := ((cut_out c f0).trans (Entails.of_eq (eight _))) $$ Hf0
  ihave HB := ((cut_in c f1).trans (Entails.of_eq ((backwards _).trans (eight _)))) $$ Hf1
  icases HP with ⟨HP0, HP1, HP2, HP3, HP4, HP5, HP6, HP7⟩
  icases HR with ⟨HR0, HR1, HR2, HR3, HR4, HR5, HR6, HR7⟩
  icases HT with ⟨HT0, HT1, HT2, HT3, HT4, HT5, HT6, HT7⟩
  icases HL with ⟨HL0, HL1, HL2, HL3, HL4, HL5, HL6, HL7⟩
  icases HA with ⟨HA0, HA1, HA2, HA3, HA4, HA5, HA6, HA7⟩
  icases HC with ⟨HC1, HC2, HC3, HC4, HC5, HC6, HC7⟩
  icases HS with ⟨HS0, HS1, HS2, HS3, HS4, HS5, HS6, HS7⟩
  icases HB with ⟨HB0, HB1, HB2, HB3, HB4, HB5, HB6, HB7⟩
  -- knock at the seven other doors, lending a slot to each
  iapply (knock m ρ K c 1 (by decide) _ (Fin.ext (k0_dev1_eq c)) _ (by decide) _) $$ HW Ho HT1 HB1; iintro Ho
  iapply (knock m ρ K c 2 (by decide) _ (Fin.ext (k0_dev2_eq c)) _ (by decide) _) $$ HW Ho HT2 HB2; iintro Ho
  iapply (knock m ρ K c 3 (by decide) _ (Fin.ext (k0_dev3_eq c)) _ (by decide) _) $$ HW Ho HT3 HB3; iintro Ho
  iapply (knock m ρ K c 4 (by decide) _ (Fin.ext (k0_dev4_eq c)) _ (by decide) _) $$ HW Ho HT4 HB4; iintro Ho
  iapply (knock m ρ K c 5 (by decide) _ (Fin.ext (k0_dev5_eq c)) _ (by decide) _) $$ HW Ho HT5 HB5; iintro Ho
  iapply (knock m ρ K c 6 (by decide) _ (Fin.ext (k0_dev6_eq c)) _ (by decide) _) $$ HW Ho HT6 HB6; iintro Ho
  iapply (knock m ρ K c 7 (by decide) _ (Fin.ext (k0_dev7_eq c)) _ (by decide) _) $$ HW Ho HT7 HB7; iintro Ho
  iapply (fill m ρ c 1 (rows_at c 0 1 rfl) rfl (fun _ _ => rfl)) $$ HI HS1; iintro ⟨HI, HS1⟩
  -- the door: all seven others have arrived, and lent a slot each
  iapply (enter m ρ K c _ (by decide)) $$ HW Ho Hc Hd; iintro ⟨Ho, Hd, HN⟩
  ihave HN' := (Entails.of_eq (seven _)) $$ HN
  icases HN' with ⟨HN1, HN2, HN3, HN4, HN5, HN6, HN7⟩
  -- make and send the seven products
  simp only [k0_part3_eq_skeleton, k0_part3_skel, semSignalWord, semWaitWord, Prog.lift, Prog.bind_op, Prog.bind_ret, Prog.pure_eq_ret, wp_deviceId]
  iapply (send m ρ K c 1 (by decide) _ (Fin.ext (k0_dev8_eq c)) _ rfl rfl rfl) $$ HW HS1 HN1 Ho HL1 HA1; iintro ⟨HE1, Ho⟩
  iapply (fill m ρ c 2 (rows_at c 1 2 rfl) rfl (fun _ _ => rfl)) $$ HI HS2; iintro ⟨HI, HS2⟩
  iapply (send m ρ K c 2 (by decide) _ (Fin.ext (k0_dev9_eq c)) _ rfl rfl rfl) $$ HW HS2 HN2 Ho HL2 HA2; iintro ⟨HE2, Ho⟩
  simp only [k0_part4_eq_skeleton, k0_part4_skel, semSignalWord, semWaitWord, Prog.lift, Prog.bind_op, Prog.bind_ret, Prog.pure_eq_ret, wp_deviceId]
  iapply (fill m ρ c 3 (rows_at c 2 3 rfl) rfl (fun _ _ => rfl)) $$ HI HS3; iintro ⟨HI, HS3⟩
  iapply (send m ρ K c 3 (by decide) _ (Fin.ext (k0_dev10_eq c)) _ rfl rfl rfl) $$ HW HS3 HN3 Ho HL3 HA3; iintro ⟨HE3, Ho⟩
  iapply (fill m ρ c 4 (rows_at c 3 4 rfl) rfl (fun _ _ => rfl)) $$ HI HS4; iintro ⟨HI, HS4⟩
  simp only [k0_part5_eq_skeleton, k0_part5_skel, semSignalWord, semWaitWord, Prog.lift, Prog.bind_op, Prog.bind_ret, Prog.pure_eq_ret, wp_deviceId]
  iapply (send m ρ K c 4 (by decide) _ (Fin.ext (k0_dev11_eq c)) _ rfl rfl rfl) $$ HW HS4 HN4 Ho HL4 HA4; iintro ⟨HE4, Ho⟩
  iapply (fill m ρ c 5 (rows_at c 4 5 rfl) rfl (fun _ _ => rfl)) $$ HI HS5; iintro ⟨HI, HS5⟩
  simp only [k0_part6_eq_skeleton, k0_part6_skel, semSignalWord, semWaitWord, Prog.lift, Prog.bind_op, Prog.bind_ret, Prog.pure_eq_ret, wp_deviceId]
  iapply (send m ρ K c 5 (by decide) _ (Fin.ext (k0_dev12_eq c)) _ rfl rfl rfl) $$ HW HS5 HN5 Ho HL5 HA5; iintro ⟨HE5, Ho⟩
  iapply (fill m ρ c 6 (rows_at c 5 6 rfl) rfl (fun _ _ => rfl)) $$ HI HS6; iintro ⟨HI, HS6⟩
  iapply (send m ρ K c 6 (by decide) _ (Fin.ext (k0_dev13_eq c)) _ rfl rfl rfl) $$ HW HS6 HN6 Ho HL6 HA6; iintro ⟨HE6, Ho⟩
  simp only [k0_part7_eq_skeleton, k0_part7_skel, semSignalWord, semWaitWord, Prog.lift, Prog.bind_op, Prog.bind_ret, Prog.pure_eq_ret, wp_deviceId]
  iapply (fill m ρ c 7 (rows_at c 6 7 rfl) rfl (fun _ _ => rfl)) $$ HI HS7; iintro ⟨HI, HS7⟩
  iapply (send m ρ K c 7 (by decide) _ (Fin.ext (k0_dev14_eq c)) _ rfl rfl rfl) $$ HW HS7 HN7 Ho HL7 HA7; iintro ⟨HE7, Ho⟩
  ihave Ho := (show owing c (dueMoves c []) ⊢ owing c 0 from BI.Entails.refl _) $$ Ho
  -- one's own product, then the seven that arrive
  iapply (own_rows m ρ c (k0_off2_eq c)) $$ HI; iintro HI
  simp only [k0_part8_eq_skeleton, k0_part8_skel, semSignalWord, semWaitWord, Prog.lift, Prog.bind_op, Prog.bind_ret, Prog.pure_eq_ret, wp_deviceId]
  iapply (await m ρ K c true 1 (by decide) rfl (credit_in 1) (pay_land m ρ c 1)) $$ HW Ho HC1 HR1; iintro ⟨Ho, HR1, HB1⟩
  iapply (peek m ρ c 1 rfl) $$ HB1; iintro HB1
  iapply (await m ρ K c true 2 (by decide) rfl (credit_in 2) (pay_land m ρ c 2)) $$ HW Ho HC2 HR2; iintro ⟨Ho, HR2, HB2⟩
  iapply (peek m ρ c 2 rfl) $$ HB2; iintro HB2
  iapply (await m ρ K c true 3 (by decide) rfl (credit_in 3) (pay_land m ρ c 3)) $$ HW Ho HC3 HR3; iintro ⟨Ho, HR3, HB3⟩
  simp only [k0_part9_eq_skeleton, k0_part9_skel, semSignalWord, semWaitWord, Prog.lift, Prog.bind_op, Prog.bind_ret, Prog.pure_eq_ret, wp_deviceId]
  iapply (peek m ρ c 3 rfl) $$ HB3; iintro HB3
  iapply (await m ρ K c true 4 (by decide) rfl (credit_in 4) (pay_land m ρ c 4)) $$ HW Ho HC4 HR4; iintro ⟨Ho, HR4, HB4⟩
  iapply (peek m ρ c 4 rfl) $$ HB4; iintro HB4
  iapply (await m ρ K c true 5 (by decide) rfl (credit_in 5) (pay_land m ρ c 5)) $$ HW Ho HC5 HR5; iintro ⟨Ho, HR5, HB5⟩
  iapply (peek m ρ c 5 rfl) $$ HB5; iintro HB5
  simp only [k0_part10_eq_skeleton, k0_part10_skel, semSignalWord, semWaitWord, Prog.lift, Prog.bind_op, Prog.bind_ret, Prog.pure_eq_ret, wp_deviceId]
  iapply (await m ρ K c true 6 (by decide) rfl (credit_in 6) (pay_land m ρ c 6)) $$ HW Ho HC6 HR6; iintro ⟨Ho, HR6, HB6⟩
  iapply (peek m ρ c 6 rfl) $$ HB6; iintro HB6
  iapply (await m ρ K c true 7 (by decide) rfl (credit_in 7) (pay_land m ρ c 7)) $$ HW Ho HC7 HR7; iintro ⟨Ho, HR7, HB7⟩
  iapply (peek m ρ c 7 rfl) $$ HB7; iintro HB7
  iapply (finish c fo _) $$ Hout; iintro Hout
  -- the slots come back
  simp only [k0_part11_eq_skeleton, k0_part11_skel, semSignalWord, semWaitWord, Prog.lift, Prog.bind_op, Prog.bind_ret, Prog.pure_eq_ret, wp_deviceId]
  iapply (await m ρ K c false 1 (by decide) rfl (credit_out 1) (pay_leave m ρ c 1)) $$ HW Ho HE1 HP1; iintro ⟨Ho, HP1, HS1⟩
  iapply (await m ρ K c false 2 (by decide) rfl (credit_out 2) (pay_leave m ρ c 2)) $$ HW Ho HE2 HP2; iintro ⟨Ho, HP2, HS2⟩
  iapply (await m ρ K c false 3 (by decide) rfl (credit_out 3) (pay_leave m ρ c 3)) $$ HW Ho HE3 HP3; iintro ⟨Ho, HP3, HS3⟩
  iapply (await m ρ K c false 4 (by decide) rfl (credit_out 4) (pay_leave m ρ c 4)) $$ HW Ho HE4 HP4; iintro ⟨Ho, HP4, HS4⟩
  iapply (await m ρ K c false 5 (by decide) rfl (credit_out 5) (pay_leave m ρ c 5)) $$ HW Ho HE5 HP5; iintro ⟨Ho, HP5, HS5⟩
  iapply (await m ρ K c false 6 (by decide) rfl (credit_out 6) (pay_leave m ρ c 6)) $$ HW Ho HE6 HP6; iintro ⟨Ho, HP6, HS6⟩
  iapply (await m ρ K c false 7 (by decide) rfl (credit_out 7) (pay_leave m ρ c 7)) $$ HW Ho HE7 HP7; iintro ⟨Ho, HP7, HS7⟩
  -- every cell closes at zero
  imod (shut m ρ K (c, none) 1 (duties_later m ρ _)) $$ [Hd] with Hd
  · isplitr; · iexact HW
    iexact Hd
  imod (shut_lanes m ρ K c false) $$ [HP0 HP1 HP2 HP3 HP4 HP5 HP6 HP7] with HP
  · isplitr; · iexact HW
    isplitl [HP0]; · iexact HP0
    iapply (Entails.of_eq (seven _).symm)
    iframe
  imod (shut_lanes m ρ K c true) $$ [HR0 HR1 HR2 HR3 HR4 HR5 HR6 HR7] with HR
  · isplitr; · iexact HW
    isplitl [HR0]; · iexact HR0
    iapply (Entails.of_eq (seven _).symm)
    iframe
  rw [wp_ret]; imodintro
  iapply Hk
  unfold bodyPost scratch quiet
  isplitl [HS0 HS1 HS2 HS3 HS4 HS5 HS6 HS7 HB0 HB1 HB2 HB3 HB4 HB5 HB6 HB7]
  · isplitl [HS0 HS1 HS2 HS3 HS4 HS5 HS6 HS7]
    · iapply (glue_out c)
      iapply (Entails.of_eq (eight _).symm)
      iframe
    · iapply (emptied m ρ c)
      isplitl [HB0]; · iexact HB0
      iapply (Entails.of_eq (seven _).symm)
      iframe
  isplitl [Hd HP HR]
  · isplitl [Hd]; · iexact Hd
    isplitl [HP]; · iexact HP
    iexact HR
  isplitl [Ho]; · iexact Ho
  isplitl [HI]; · iexact HI
  iexact Hout

/-- What the pipeline hands the body, and asks back. -/
def handed : sProp 𝕄 :=
  iprop(Φ₀ m ρ c ∗ (dats m ρ 0 c).owesAt () t0_0.castSucc
    ∗ (∃ d, owns (c : Thread nD τ) (Memref.whole cc0_stg0_0) fullShare ((dats m ρ 0 c).before (0 : Fin 3) t0_0 d))
    ∗ (∃ d, owns (c : Thread nD τ) (Memref.whole cc0_stg1_0) fullShare ((dats m ρ 0 c).before (1 : Fin 3) t0_0 d))
    ∗ (∃ d, owns (c : Thread nD τ) (Memref.whole cc0_stg2_0) fullShare ((dats m ρ 0 c).before (2 : Fin 3) t0_0 d)))
def returned : sProp 𝕄 :=
  iprop(Φ₁ c ∗ (dats m ρ 0 c).owesAt () t0_0.succ
    ∗ owns (c : Thread nD τ) (Memref.whole cc0_stg0_0) fullShare (xAt m ρ c)
    ∗ owns (c : Thread nD τ) (Memref.whole cc0_stg1_0) fullShare (wAt m ρ c)
    ∗ owns (c : Thread nD τ) (Memref.whole cc0_stg2_0) fullShare (outAt m ρ c))

theorem before_x (d : _) : (dats m ρ 0 c).before (0 : Fin 3) t0_0 d = xAt m ρ c := by
  unfold Dat.before; rw [if_pos (fetch0_0 _)]; rfl
theorem before_w (d : _) : (dats m ρ 0 c).before (1 : Fin 3) t0_0 d = wAt m ρ c := by
  unfold Dat.before; rw [if_pos (fetch0_1 _)]; rfl

set_option maxRecDepth 4000 in
/-- The pipeline's demand on the body. -/
theorem body_obligation : BodyObligation (dats (F := F) m ρ 0 c) (defs₀ (F := F)) 𝒱₀ () Set.univ := fun t => by
  rw [fin_N0 t, bigSep_W0, bigSep_W0]
  show handed m ρ c ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) (fun _ => returned m ρ c)
  unfold handed Φ₀ start ghost known Dat.owesAt Pipeline.owesWithin
  simp only [before_x, before_w]
  iintro ⟨⟨⟨⟨%K, ⟨HI, HR⟩, HP, HT⟩, HC, HV⟩, HS⟩, ⟨%W, -, Ho⟩, ⟨%d0, Hx⟩, ⟨%d1, Hw⟩, ⟨%d2, Hout⟩⟩
  iapply (sound_body m ρ K c fun _ => returned m ρ c)
  unfold bodyPre bodyPost watch owing inputs
  isplitl [HI HR HP HT HC HV HS Ho Hx Hw Hout]
  · isplitl [HI HR HV]
    · isplitl [HI]; · iexact HI
      isplitl [HR]; · iexact HR
      iexact HV
    isplitl [HP]; · iexact HP
    isplitl [HT]; · iexact HT
    isplitl [HC]; · iexact HC
    isplitl [HS]; · iexact HS
    isplitl [Ho]; · iexists W; iexact Ho
    isplitl [Hx Hw]
    · isplitl [Hx]; · iapply (buffer_out c _ _) $$ Hx
      iapply (buffer_out c _ _) $$ Hw
    iexists _
    iapply (buffer_out c _ _) $$ Hout
  iintro ⟨HS, HQ, ⟨%W', Ho⟩, ⟨Hx, Hw⟩, Hout⟩
  unfold returned Φ₁ Dat.owesAt Pipeline.owesWithin
  isplitl [HS HQ]
  · isplitl [HS]; · iexact HS
    iexact HQ
  isplitl [Ho]
  · iexists W'
    isplitr; · ipureintro; exact fun _ _ => Or.inl trivial
    iexact Ho
  isplitl [Hx]; · iapply (buffer_in c _ _) $$ Hx
  isplitl [Hw]; · iapply (buffer_in c _ _) $$ Hw
  iapply (buffer_in c _ _) $$ Hout

end Run

end Cert.Scatter

end
-- ==== Proof.Launch.lean ====
/-
# The launch

How the ghost state is set up before the eight kernels start, dealt to the devices, and collected at the end: the run of
the whole program from any memory.
-/
module

public import proofs.«01_k».proof.Proof.Body
public import Idealize.ShloMosaic.Lib.Quiescent
public import Idealize.ShloMosaic.Lib.Pipeline.CollectiveSegs

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## Cells and tokens -/

/-- The body's own transfer semaphores. -/
abbrev ownS : Bool × Fin 8 → SemLoc sig := fun bk => .dma (moveS bk.1 bk.2)
theorem ownFacts : Pipeline.OwnSemFacts cfg0.spec ownS := by decide

theorem spotSem_injective : Function.Injective spotSem := by
  intro s s' h
  rcases s with _ | ⟨b, k⟩ <;> rcases s' with _ | ⟨b', k'⟩
  · rfl
  · exact absurd h (fun h => by cases h)
  · exact absurd h (fun h => by cases h)
  · exact congrArg some (ownFacts.inj h)
theorem cell_injective : Function.Injective cell := by
  rintro ⟨c, s⟩ ⟨c', s'⟩ h
  have h₁ : c = c' := congrArg (fun g : GSem nD τ sig => g.1.1) h
  have h₂ : s = s' := spotSem_injective (congrArg Prod.snd h)
  rw [h₁, h₂]
def ringCells : Finset (GSem nD τ sig) := Finset.univ.map ⟨cell, cell_injective⟩

/-- The contributions, one for each offset at the door, at the departures and at the arrivals. -/
abbrev duty (x : Dev nD × (Option Bool × Fin 8)) : GSem nD τ sig × ℕ × Fin 8 := match x.2.1 with
  | none => (door x.1, 0, x.2.2)
  | some b => (cell (x.1, some (b, x.2.2)), 0, 0)
theorem duty_injective : Function.Injective duty := by
  rintro ⟨c, b, k⟩ ⟨c', b', k'⟩ h
  rcases b with _ | b <;> rcases b' with _ | b' <;> dsimp only [duty] at h
  · have h₁ := cell_injective (congrArg Prod.fst h)
    have h₂ : k = k' := congrArg (fun y => y.2.2) h
    obtain rfl : c = c' := congrArg Prod.fst h₁
    rw [h₂]
  · exact absurd (congrArg Prod.snd (cell_injective (congrArg Prod.fst h))) (fun h => by cases h)
  · exact absurd (congrArg Prod.snd (cell_injective (congrArg Prod.fst h))) (fun h => by cases h)
  · have h₁ := cell_injective (congrArg Prod.fst h)
    cases h₁; rfl
def ringToks : Finset (GSem nD τ sig × ℕ × Fin 8) := Finset.univ.map ⟨duty, duty_injective⟩

def ghost₀ : AllU := (initOf (Pipeline.cells cfgs cellOf_inj) (Pipeline.launchToks cfgs cellOf_inj), initOf ringCells ringToks)

/-- The tokens of a device's own cells, as they are made. -/
def minted (c : Dev nD) : sProp 𝕄 :=
  iprop((bigSep Finset.univ fun k : Fin 8 => dutyTok ringE (door c) 0 k)
    ∗ (bigSep Finset.univ fun k : Fin 8 => dutyTok ringE (leave c k) 0 0) ∗ (bigSep Finset.univ fun k : Fin 8 => dutyTok ringE (land c k) 0 0))

/-- A device's share of what is made. -/
def share₀ (c : Dev nD) : sProp 𝕄 :=
  iprop((bigSep Finset.univ fun s : Spot => roundState ringE (plan m ρ) (cell (c, s)) 0)
    ∗ places c ∗ (bigSep Finset.univ fun s : Spot => reached ringE (cell (c, s)) 0) ∗ minted c)
/-- Its share once the cells are in use and the tokens dealt to those who spend them. -/
def share₁ (c : Dev nD) : sProp 𝕄 := iprop(∃ K, ghost m ρ K c)

theorem fund_ring : BI.own (ringE (initOf ringCells ringToks)) ⊢ (|==> bigSep Finset.univ (share₀ m ρ) : sProp 𝕄) := by
  have hC (Φ : GSem nD τ sig → sProp 𝕄) : bigSep ringCells Φ = bigSep Finset.univ fun c : Dev nD => bigSep Finset.univ fun s : Spot => Φ (cell (c, s)) := by
    unfold ringCells; rw [bigSep_map, bigSep_univ_prod]; rfl
  have hT : bigSep ringToks (fun x => (dutyTok ringE x.1 x.2.1 x.2.2 : sProp 𝕄)) = bigSep Finset.univ fun c : Dev nD => minted c := by
    unfold ringToks; rw [bigSep_map, bigSep_univ_prod]
    exact bigSep_congr fun c _ => by
      unfold minted
      rw [bigSep_univ_prod, bigSep_univ_eq_bigSepL [none, some false, some true] (by decide) (by decide)]; rfl
  iintro HX
  imod (Rounds.fund ringE (plan m ρ) ringCells ringToks) $$ HX with ⟨Hst, Hr, Hat, Htok⟩
  imodintro
  ihave Hst := (Entails.of_eq (hC fun g => roundState ringE (plan m ρ) g 0)) $$ Hst
  ihave Hat := (Entails.of_eq (hC fun g => atPos ringE g 0 ∅ 0)) $$ Hat
  ihave Hr := (Entails.of_eq (hC fun g => reached ringE g 0)) $$ Hr
  ihave Htok := (Entails.of_eq hT) $$ Htok
  unfold share₀ places; simp only [bigSep_sep']
  isplitl [Hst]; · iexact Hst
  isplitl [Hat]; · iexact Hat
  isplitl [Hr]; · iexact Hr
  iexact Htok

/-! ## The semaphores at zero -/

omit [FloatOps F] in
/-- The handshake's semaphore is the one that outlives the body. -/
theorem unscoped_door (c : Dev nD) : (unscopedSems0 c : sProp 𝕄) = semVal (door c) 0 := by
  unfold unscopedSems0; rw [bigSep_eq_bigSepL_of_eq [SemLoc.reg doorS] (by decide) (by decide)]; rfl
omit [FloatOps F] in
theorem own_lanes (c : Dev nD) :
    (Pipeline.ownSems0 (Ix := Unit) (Name := ℕ) (U := AllU) (Lvl := ℕ) (Val := Elt F) (τ := τ) ownS c : sProp 𝕄)
      = iprop((bigSep Finset.univ fun k => semVal (leave c k) 0) ∗ (bigSep Finset.univ fun k => semVal (land c k) 0)) := by
  unfold Pipeline.ownSems0
  rw [bigSep_univ_prod, bigSep_univ_eq_bigSepL [false, true] (by decide) (by decide)]; rfl

/-- A device's cells are put to use. -/
theorem core_alloc (c : Dev nD) :
    iprop(Pipeline.ownSems0 (Ix := Unit) (Name := ℕ) (U := AllU) (Lvl := ℕ) (Val := Elt F) (τ := τ) ownS c ∗ unscopedSems0 c ∗ share₀ m ρ c)
      ⊢ |={Set.univ}=> iprop((bigSep Finset.univ fun s : Spot => iprop(∃ κ : ℕ, cellInv ringE (plan m ρ) κ (cell (c, s))))
          ∗ places c ∗ (bigSep Finset.univ fun s : Spot => reached ringE (cell (c, s)) 0) ∗ minted c) := by
  unfold share₀
  rw [own_lanes, unscoped_door]
  iintro ⟨⟨HL, HA⟩, Hd, Hst, Hrest⟩
  imod (show iprop((bigSep Finset.univ fun s : Spot => semVal (cell (c, s)) 0) ∗ bigSep Finset.univ fun s : Spot => roundState ringE (plan m ρ) (cell (c, s)) 0)
      ⊢ (|={Set.univ}=> bigSep Finset.univ fun s : Spot => iprop(∃ κ : ℕ, cellInv ringE (plan m ρ) κ (cell (c, s))) : sProp 𝕄) from by
        rw [← bigSep_sep']
        exact (bigSep_mono fun s _ => (Rounds.body_intro ringE (plan m ρ) (cell (c, s))).trans inv_alloc).trans (bigSep_fupd _ _)) $$ [HL HA Hd Hst] with HI
  · isplitr [Hst]
    · iapply (Entails.of_eq (spots _).symm)
      isplitl [Hd]; · iexact Hd
      isplitl [HL]; · iexact HL
      iexact HA
    iexact Hst
  imodintro
  isplitl [HI]; · iexact HI
  iexact Hrest

/-! ## Dealing the tokens round the ring -/

/-- Who knocks: from the knocked-at device's name for the knocker to the knocker's own, and back. -/
def knocker : Dev nD × Fin 8 ≃ Dev nD × Fin 8 where
  toFun x := (x.1 + x.2, -x.2)
  invFun x := (x.1 + x.2, -x.2)
  left_inv := by decide
  right_inv := by decide
/-- Who sends to whom. -/
def sender : Dev nD × Fin 8 ≃ Dev nD × Fin 8 where
  toFun x := (x.1 + x.2, x.2)
  invFun x := (x.1 - x.2, x.2)
  left_inv := by decide
  right_inv := by decide

omit [FloatOps F] in
/-- A family over devices and offsets may be listed from the other end. -/
theorem dealt (e : Dev nD × Fin 8 ≃ Dev nD × Fin 8) (Φ : Dev nD → Fin 8 → sProp (MT nD τ sig Unit (Elt F) ℕ AllU ℕ)) :
    (bigSep Finset.univ fun c => bigSep Finset.univ fun k => Φ c k)
      = bigSep Finset.univ fun c => bigSep Finset.univ fun k => Φ (e (c, k)).1 (e (c, k)).2 := by
  rw [← bigSep_univ_prod fun x : Dev nD × Fin 8 => Φ x.1 x.2, bigSep_univ_equiv e, bigSep_univ_prod]

omit [FloatOps F] in
theorem minted_tokens : (bigSep Finset.univ fun c : Dev nD => (minted c : sProp 𝕄)) = bigSep Finset.univ fun c : Dev nD => tokens c := by
  unfold minted tokens
  simp only [bigSep_sep']
  rw [dealt knocker fun c k => dutyTok ringE (door c) 0 k, dealt sender fun c k => dutyTok ringE (land c k) 0 0]
  rfl

theorem regroup :
    (bigSep Finset.univ fun c : Dev nD => iprop((bigSep Finset.univ fun s : Spot => iprop(∃ κ : ℕ, cellInv ringE (plan m ρ) κ (cell (c, s))))
          ∗ places c ∗ (bigSep Finset.univ fun s : Spot => reached ringE (cell (c, s)) 0) ∗ minted c) : sProp 𝕄)
      ⊢ bigSep Finset.univ (share₁ m ρ) := by
  rw [bigSep_sep', bigSep_sep', bigSep_sep', ← bigSep_univ_prod (fun p : Dev nD × Spot => iprop(∃ κ : ℕ, cellInv ringE (plan m ρ) κ (cell p))),
    ← bigSep_univ_prod (fun p : Dev nD × Spot => (reached ringE (cell p) 0 : sProp 𝕄)), minted_tokens]
  iintro ⟨HI, HP, #HR, HT⟩
  ihave HK := (BI.bigSep_exists_pi Finset.univ (fun (p : Dev nD × Spot) (κ : ℕ) => (cellInv ringE (plan m ρ) κ (cell p) : sProp 𝕄))) $$ HI
  icases HK with ⟨%K, #HI⟩
  iapply (bigSep_with_persistent (R := known m ρ K) (Φ := fun c => iprop(places c ∗ tokens c)) fun c _ => by
    unfold share₁ ghost
    iintro H
    iexists K
    iexact H)
  isplitr
  · unfold known
    isplitr; · iexact HI
    iexact HR
  rw [bigSep_sep']
  isplitl [HP]; · iexact HP
  iexact HT

/-- Every device's cells at once. -/
theorem glob : (bigSep Finset.univ fun c => iprop(Pipeline.ownSems0 (Ix := Unit) (Name := ℕ) (U := AllU) (Lvl := ℕ) (Val := Elt F) (τ := τ) ownS c ∗ unscopedSems0 c ∗ share₀ m ρ c) : sProp 𝕄)
    ⊢ |={Set.univ}=> bigSep Finset.univ (share₁ m ρ) :=
  ((bigSep_mono fun c _ => core_alloc m ρ c).trans (bigSep_fupd _ _)).trans (BI.fupd_mono (regroup m ρ))

/-! ## The credit -/

theorem door_land (c d : Dev nD) (k : Fin 8) : door c ≠ land d k := fun h => by
  have := congrArg Prod.snd (cell_injective h); cases this

/-- What is owed to an arrival: one transfer for each listed offset that leads there. -/
theorem dueMoves_land (d c : Dev nD) (j : Fin 8) (ks : List (Fin 8)) :
    dueMoves d ks (land c j) () = (ks.filter fun k => d + k = c ∧ k = j).length * N := by
  induction ks with
  | nil => exact (Nat.zero_mul _).symm
  | cons k ks ih =>
    unfold dueMoves
    rw [Pi.add_apply, Finsupp.add_apply, ih, tallyAt_apply, List.filter_cons]
    by_cases h : d + k = c ∧ k = j
    · obtain ⟨rfl, rfl⟩ := h
      simp [Nat.add_mul]
    · rw [if_neg (fun h' => h (by have := cell_injective h'.1; cases this; exact ⟨rfl, rfl⟩)), if_neg (by simpa using h), Nat.add_zero]
theorem dueMoves_door (d c : Dev nD) (ks : List (Fin 8)) : dueMoves d ks (door c) () = 0 := by
  by_contra h
  obtain ⟨e, k, h⟩ := dueMoves_pos (Nat.pos_of_ne_zero h)
  exact door_land _ _ _ h
theorem dueKnocks_land (d c : Dev nD) (j : Fin 8) (ks : List (Fin 8)) : dueKnocks d ks (land c j) () = dueMoves d hops (land c j) () := by
  induction ks with
  | nil => rfl
  | cons k ks ih =>
    unfold dueKnocks
    rw [Pi.add_apply, Finsupp.add_apply, ih, tallyAt_apply, if_neg (fun h => door_land _ _ _ h.1.symm), Nat.add_zero]
/-- What is owed to a door: one unit for each listed offset that leads there. -/
theorem dueKnocks_door (d c : Dev nD) (ks : List (Fin 8)) :
    dueKnocks d ks (door c) () = (ks.filter fun k => d + k = c).length := by
  induction ks with
  | nil => exact dueMoves_door d c hops
  | cons k ks ih =>
    unfold dueKnocks
    rw [Pi.add_apply, Finsupp.add_apply, ih, tallyAt_apply, List.filter_cons]
    by_cases h : d + k = c
    · subst h; simp
    · rw [if_neg (fun h' => h (congrArg Prod.fst (cell_injective h'.1)).symm), if_neg (by simpa using h), Nat.add_zero]

theorem seven_knocks : ∀ c : Dev nD, ∑ d : Dev nD, (hops.filter fun k => d + k = c).length = 7 := by decide
theorem one_sender : ∀ (c : Dev nD) (j : Fin 8), j ≠ 0 → ∑ d : Dev nD, (hops.filter fun k => d + k = c ∧ k = j).length = 1 := by decide

theorem launch_door (c : Dev nD) :
    tallyOn (door c) (launchCredit (Pipeline.owing debt) 0 (door c)) = (tallyAt (door c) () 7 : CellTallies nD τ sig Unit) := by
  unfold tallyAt; refine congrArg _ (Finsupp.ext fun u => ?_); cases u
  rw [Pipeline.launchCredit_owing, Finsupp.single_eq_same, show ∑ d, debt d (door c) () = _ from (Finset.sum_congr rfl fun d _ => dueKnocks_door d c hops).trans (seven_knocks c)]
theorem launch_land (c : Dev nD) (k : Fin 8) (hk : k ≠ 0) :
    tallyOn (land c k) (launchCredit (Pipeline.owing debt) 0 (land c k)) = (tallyAt (land c k) () N : CellTallies nD τ sig Unit) := by
  unfold tallyAt; refine congrArg _ (Finsupp.ext fun u => ?_); cases u
  rw [Pipeline.launchCredit_owing, Finsupp.single_eq_same,
    show ∑ d, debt d (land c k) () = _ from Finset.sum_congr rfl fun d _ => (dueKnocks_land d c k hops).trans (dueMoves_land d c k hops),
    ← Finset.sum_mul, one_sender c k hk, Nat.one_mul]

def landing : Fin 8 ↪ SemLoc sig := ⟨fun k => .dma (moveS true k), fun k k' h => congrArg Prod.snd (ownFacts.inj (a₁ := (true, k)) (a₂ := (true, k')) h)⟩

omit [FloatOps F] in
theorem creds (c : Dev nD) : (Pipeline.launchCred debt c : sProp 𝕄) ⊢ credits c := by
  unfold Pipeline.launchCred credits
  rw [bigSep_univ_at _ (SemLoc.reg doorS), launch_door]
  refine sep_mono_right ((bigSep_subset (t := (Finset.univ.erase 0).map landing) fun s hs => ?_).trans ?_)
  · obtain ⟨k, -, rfl⟩ := Finset.mem_map.mp hs
    refine Finset.mem_erase.mpr ⟨fun h => ?_, Finset.mem_univ _⟩
    cases h
  · rw [bigSep_map]
    refine (show bigSep (Finset.univ.erase 0) (fun k => cred (tallyOn (land c k) (launchCredit (Pipeline.owing debt) 0 (land c k))))
      ⊢ (bigSep (Finset.univ.erase 0) (fun k => cred (tallyAt (land c k) () N)) : sProp 𝕄) from bigSep_mono fun k hk => ?_)
    rw [launch_land c k (Finset.ne_of_mem_erase hk)]
    exact BI.Entails.refl _

/-! ## The run -/

theorem start_intro (c : Dev nD) :
    iprop(Pipeline.unscopedRestP Pipeline.Prefetch.none cfg0.spec c (fun b => m ((c : Thread nD τ).loc b)) ∗ levAts ranked rank
        ∗ Pipeline.launchCred debt c ∗ prngReg c (ρ c) ∗ share₁ m ρ c)
      ⊢ |={Set.univ}=> iprop(start m ρ c ∗ emp) := by
  iintro ⟨-, HV, HC, -, HG⟩
  ihave HC := (creds (F := F) c) $$ HC
  imodintro
  unfold start share₁
  isplitl
  · isplitl [HG]; · iexact HG
    isplitl [HC]; · iexact HC
    iexact HV
  · iempintro

theorem enter_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem exit_elim (c : Dev nD) :
    (dats m ρ 0 c).Φ (Fin.last cfg0.N) ⊢ iprop(unscopedSems0 c ∗ Pipeline.ownSems0 ownS c ∗ Pipeline.scopedRest cfg0.spec c) := by
  rw [show (dats m ρ 0 c).Φ (Fin.last cfg0.N) = Φ₁ c from rfl, scopedRest0_eq, own_lanes, unscoped_door]
  unfold Φ₁ scratch quiet
  iintro ⟨Hr, Hd, HL⟩
  isplitl [Hd]; · iexact Hd
  isplitl [HL]; · iexact HL
  iexact Hr

theorem waits (c : Dev nD) : (levAts ranked rank : sProp 𝕄) ⊢ Pipeline.cellsWaits cfgs (dats m ρ) () 0 c :=
  Pipeline.cellsWaits_intro cfgs (dats m ρ) () 0 c fun w s t =>
    mayWait_copy c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-- What array `w` of device `c` holds at the end. -/
def endA (c : Dev nD) (w : Fin cfg0.W) : Buf (Elt F) ((cfg0.win w).arr.view.loc (c : Thread nD τ)) := (dats m ρ 0 c).arrAt w cfg0.N

set_option maxRecDepth 8000 in
/-- From any memory with all semaphores at zero the eight devices' runs end, with every array as `endA` says and every
    semaphore at zero again. -/
theorem run_main : θ_run defs (onTc (τ := τ) (main (F := F))) (before₀ m ρ) (fun r =>
    (∀ c : Dev nD, ∀ w : Fin cfg0.W, r.2.mem ((cfg0.win w).arr.view.loc (c : Thread nD τ)) = endA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) pipeE defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := ranked) (lv := rank) (hL := ranked_other) (hwaits := waits m ρ)
    (G := share₀ m ρ) (G' := share₁ m ρ) (u₀ := ghost₀)
    (hu₀ := by
      unfold ghost₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter_intro m ρ) (hout := exit_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began; -/
theorem endA_x (c : Dev nD) : endA m ρ c (0 : Fin 3) = m ((c : Thread nD τ).loc main_arg0) :=
  (dats (F := F) m ρ 0 c).arrAt_in (0 : Fin 3) rfl _
theorem endA_w (c : Dev nD) : endA m ρ c (1 : Fin 3) = m ((c : Thread nD τ).loc main_arg1) :=
  (dats (F := F) m ρ 0 c).arrAt_in (1 : Fin 3) rfl _

end Cert.Scatter

end
-- ==== Proof.Value.lean ====
/-
# What the kernel leaves in its result, over the reals

First, for floats of any kind: the blocks the body works on are the whole argument arrays, and the result array ends
as `outAt`. Then, at exact arithmetic, an entry of it: eight sums of 128 products, one per device, clipped at zero.
-/
module

public import proofs.«01_k».proof.Proof.Launch
public import Idealize.ShloMosaic.Lib.Pointwise
public import Idealize.ShloMosaic.Lib.Pipeline.Value

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Blocks that are whole arrays -/

section Whole

variable {F : FTy → Type} [FloatOps F]
variable (m : (ℓ : Loc nD τ sig) → Buf (Elt F) ℓ) (ρ : Dev nD → PrngReg)

omit [FloatOps F] in
theorem xAt_eq (c : Dev nD) : xAt m ρ c = m ((c : Thread nD τ).loc main_arg0) := by
  unfold xAt
  funext y
  refine congrArg (m ((c : Thread nD τ).loc main_arg0)) (funext fun a => Fin.ext ?_)
  exact win0_0.rect_emb_val_of_index_zero t0_0 a (by revert a; decide +kernel) y

omit [FloatOps F] in
theorem wAt_eq (c : Dev nD) : wAt m ρ c = m ((c : Thread nD τ).loc main_arg1) := by
  unfold wAt
  funext y
  refine congrArg (m ((c : Thread nD τ).loc main_arg1)) (funext fun a => Fin.ext ?_)
  exact win0_1.rect_emb_val_of_index_zero t0_0 a (by revert a; decide +kernel) y

theorem out_emb (y : S128x1024.Idx) : ((cfg0.win 2).blk t0_0).view.emb y = y :=
  funext fun a => Fin.ext (win0_2.rect_emb_val_of_index_zero t0_0 a (by revert a; decide +kernel) y)

/-- The result array ends holding `outAt`. -/
theorem endA_out (c : Dev nD) : endA m ρ c (2 : Fin 3) = outAt m ρ c := by
  funext y
  have h := (dats m ρ 0 c).arrAt_emb_eq_flushed (2 : Fin 3)
    (fun t t' _ _ hne => absurd ((fin_N0 t).trans (fin_N0 t').symm) hne) t0_0 (flush0_2 _) y
  rw [out_emb] at h
  exact h

end Whole

/-! ## An entry of it -/

section Exact

variable (m : (ℓ : Loc nD τ sig) → Buf (Elt Ideal) ℓ) (ρ : Dev nD → PrngReg)

/-- Row `r` of block `d` among the rows of `x`. -/
abbrev rowOf (d : Dev nD) (r : Fin 128) : Fin 1024 := ⟨128 * d.val + r.val, by have : d.val < 8 := d.isLt; omega⟩

/-- What device `s` adds to row `r`, column `l` of device `d`'s result. -/
def share (s d : Dev nD) (r : Fin 128) (l : Fin 1024) : EReal :=
  ∑ k : Fin 128, (xAt m ρ s : S1024x128.Idx → EReal) (ix2 (rowOf d r) k) * (wAt m ρ s : S128x1024.Idx → EReal) (ix2 k l)

theorem xRows_at (s d : Dev nD) (r k : Fin 128) : xRows m ρ s d (ix2 r k) = xAt m ρ s (ix2 (rowOf d r) k) := by
  unfold xRows
  refine congrArg (xAt m ρ s) (funext fun a => Fin.ext ?_)
  match a with
  | ⟨0, _⟩ => exact congrArg (128 * d.val + ·) (Nat.one_mul r.val)
  | ⟨1, _⟩ => exact (Nat.zero_add _).trans (Nat.one_mul k.val)

/-- The product a device keeps, -/
theorem kept_at (s d : Dev nD) (r : Fin 128) (l : Fin 1024) :
    k0_pay10 (xRows m ρ s d) (wAt m ρ s) (ix2 r l) = share m ρ s d r l := by
  unfold share
  simp only [← xRows_at]
  pointwise [k0_pay10]

/-- and one it sends: rounding is nothing over the reals. -/
theorem part_at (s d : Dev nD) (r : Fin 128) (l : Fin 1024) : part m ρ s d (ix3 0 r l) = share m ρ s d r l := by
  unfold part share
  simp only [← xRows_at]
  pointwise [k0_pay1]

theorem outAt_at (c : Dev nD) (r : Fin 128) (l : Fin 1024) :
    outAt m ρ c (ix2 r l) = max (share m ρ c c r l + share m ρ (c - 1) c r l + share m ρ (c - 2) c r l + share m ρ (c - 3) c r l
      + share m ρ (c - 4) c r l + share m ρ (c - 5) c r l + share m ρ (c - 6) c r l + share m ρ (c - 7) c r l) 0 := by
  rw [← kept_at]
  simp only [← part_at]
  unfold outAt
  pointwise [k0_pay13, k0_pay12, k0_pay11]

/-- Going round from any device meets each device once. -/
theorem sum_round (c : Dev nD) (f : Dev nD → EReal) :
    f c + f (c - 1) + f (c - 2) + f (c - 3) + f (c - 4) + f (c - 5) + f (c - 6) + f (c - 7) = ∑ s : Fin 8, f s := by
  have h : Function.Bijective fun k : Fin 8 => (c - k : Fin 8) := by revert c; decide
  rw [← h.sum_comp (fun s => f s), Fin.sum_univ_eight]
  rw [show (c - 0 : Fin 8) = c by revert c; decide]

theorem outAt_sum (c : Dev nD) (r : Fin 128) (l : Fin 1024) :
    outAt m ρ c (ix2 r l) = max (∑ s : Fin 8, share m ρ s c r l) 0 :=
  (outAt_at m ρ c r l).trans (congrArg (max · 0) (sum_round c fun s => share m ρ s c r l))

end Exact

end Cert.Scatter

end
-- ==== Proof.Match.lean ====
/-
# The kernel's result is the reference's, block by block

One sum of 1024 products on one device, eight sums of 128 on eight: the same numbers, cut where the devices' shares of
the long axis meet.
-/
module

public import proofs.«01_k».proof.Defs
public import proofs.«01_k».proof.Proof.Gen.Kernel
public import proofs.«01_k».proof.Proof.Value
public import proofs.«01_k».proof.Proof.Gen.ReferenceIdeal.Run
public import Idealize.ShloMosaic.Lib.Quiescent

@[expose] public section

noncomputable section

namespace Cert.Scatter

open Cert.KernelIdeal Cert.KernelIdeal.Gen
open Idealize.ShloMosaic
open Idealize.ShloMosaic.TcCoe
open Idealize.SL.Sem

/-- A whole 1024 by 1024 array, as a layout's blocks are cut from it. -/
abbrev Square : Shape := ⟨2, ![1024, 1024]⟩

/-- The reference's result as a function of its arguments. -/
def clipped (X W : FVec Ideal Square .bf16) : FVec Ideal Square .f32 :=
  maximumf (Host.dotGeneral Cert.ReferenceIdeal.dot_S1024x1024_S1024x1024_S1024x1024_1_0_0_1_n_n none
      (extf .f32 X Cert.ReferenceIdeal.Gen.bitsLt_bf16_f32) (extf .f32 W Cert.ReferenceIdeal.Gen.bitsLt_bf16_f32))
    (broadcastInDim Cert.ReferenceIdeal.S1024x1024 ![] Cert.ReferenceIdeal.Gen.bcast_S_S1024x1024
      (constant Cert.ReferenceIdeal.S_ .f32 0x00000000#32))

theorem clipped_at (X W : FVec Ideal Square .bf16) (i j : Fin 1024) :
    clipped X W (ix2 i j) = max (∑ k : Fin 1024, (X (ix2 i k) : EReal) * (W (ix2 k j) : EReal)) 0 := by
  pointwise [clipped]

variable (m : (ℓ : Loc nD τ sig) → Buf (Elt Ideal) ℓ) (ρ : Dev nD → PrngReg)

/-- Place `k` of device `s`'s share of an axis, as a layout writes it: the multiple on the other side of `rowOf`'s. -/
abbrev placeOf (s : Dev nD) (k : Fin 128) : Fin 1024 := ⟨s.val * 128 + k.val, by have : s.val < 8 := s.isLt; omega⟩

theorem rowOf_eq (s : Dev nD) (k : Fin 128) : rowOf s k = placeOf s k := Fin.ext (congrArg (· + k.val) (Nat.mul_comm ..))

/-- If every device holds its columns of `X` and its rows of `W`, every device ends with its rows of the result. -/
theorem outAt_block (X W : FVec Ideal Square .bf16)
    (hX : ∀ c : Dev nD, m ((c : Thread nD τ).loc main_arg0) = Layout.block ⟨2, ![1024, 128]⟩ Square 1 8 c X)
    (hW : ∀ c : Dev nD, m ((c : Thread nD τ).loc main_arg1) = Layout.block ⟨2, ![128, 1024]⟩ Square 0 8 c W) (c : Dev nD) :
    outAt m ρ c = Layout.block ⟨2, ![128, 1024]⟩ Square 0 8 c (clipped X W) := by
  have hx (s : Dev nD) (i : Fin 1024) (k : Fin 128) : xAt m ρ s (ix2 i k) = X (ix2 i (placeOf s k)) := by
    rw [xAt_eq, hX]
    refine congrArg X (funext fun a => ?_)
    match a with
    | ⟨0, _⟩ => rfl
    | ⟨1, _⟩ => rfl
  have hw (s : Dev nD) (k : Fin 128) (j : Fin 1024) : wAt m ρ s (ix2 k j) = W (ix2 (placeOf s k) j) := by
    rw [wAt_eq, hW]
    refine congrArg W (funext fun a => ?_)
    match a with
    | ⟨0, _⟩ => rfl
    | ⟨1, _⟩ => rfl
  have hout (r : Fin 128) (l : Fin 1024) :
      outAt m ρ c (ix2 r l) = Layout.block ⟨2, ![128, 1024]⟩ Square 0 8 c (clipped X W) (by decide) (ix2 r l) := by
    have hi : Layout.block ⟨2, ![128, 1024]⟩ Square 0 8 c (clipped X W) (by decide) (ix2 r l) = clipped X W (ix2 (placeOf c r) l) := by
      refine congrArg (clipped X W) (funext fun a => ?_)
      match a with
      | ⟨0, _⟩ => rfl
      | ⟨1, _⟩ => rfl
    rw [hi, clipped_at, outAt_sum, Fin.sum_univ_tiles 8 128 rfl]
    simp only [share, hx, hw, rowOf_eq]
  funext y
  rw [show y = ix2 (y 0) (y 1) from funext fun a => match a with | ⟨0, _⟩ => rfl | ⟨1, _⟩ => rfl]
  exact hout (y 0) (y 1)

/-! ## The two claims that need it, and the runs behind them -/

/-- The reference runs, its arguments stay, and it has no semaphores to leave raised. -/
theorem run_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The kernel's runs for floats of any kind, its arguments and its result named. -/
theorem run_named {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_v1) = outAt m ρ c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => ⟨(h.1 c (2 : Fin 3)).trans (endA_out m ρ c), (h.1 c (0 : Fin 3)).trans (endA_x m ρ c),
    (h.1 c (1 : Fin 3)).trans (endA_w m ρ c)⟩, h.2⟩) (run_main m ρ)

theorem run_ideal : Cert.quiescent_KernelIdeal := fun m ρ _ =>
  (θ_run defs _ _).mono (fun _ h => ⟨fun c => (h.1 c).2, h.2⟩) (run_named m ρ)

/-- The program as it runs on the chip has the same text: its kernel's body is this one, -/
theorem same_bodies {F : FTy → Type} [FloatOps F] : Cert.Kernel.defs₀ (F := F) = defs₀ (F := F) :=
  congrArg Defs.onTc (funext fun l => funext fun a => match l, a with | 0, (t, s) => rfl)
/-- and so are the calls around it. -/
theorem same_defs {F : FTy → Type} [FloatOps F] : Cert.Kernel.defs (F := F) = defs (F := F) :=
  congrArg (Pipeline.defs _) same_bodies

theorem run_chip : Cert.quiescent_Kernel := fun m ρ _ => by
  rw [same_defs]
  exact (θ_run defs _ _).mono (fun _ h => And.intro (fun c => (h.1 c).2) h.2) (run_named (F := Bits) m ρ)

theorem agrees : Cert.algebraic_KernelIdeal_ReferenceIdeal := fun m ρ m' ρ' _ hin =>
  ⟨clipped (m' ((0 : Dev Cert.ReferenceIdeal.nD).tc.loc Cert.ReferenceIdeal.main_arg0))
      (m' ((0 : Dev Cert.ReferenceIdeal.nD).tc.loc Cert.ReferenceIdeal.main_arg1)),
    (θ_run defs _ _).mono
      (fun _ h c => ⟨(h.1 c).1.trans (outAt_block m ρ _ _ (fun c => (hin c).1) (fun c => (hin c).2) c), (h.1 c).2⟩) (run_named m ρ),
    (θ_run Cert.ReferenceIdeal.defs _ _).mono (fun _ h => h 0) (Cert.ReferenceIdeal.Value.run m' ρ')⟩

end Cert.Scatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Match
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Scatter.run_chip, Scatter.run_ideal, Scatter.run_reference, trivial, Scatter.agrees⟩

end Cert.Proof

end
